-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_q_scales_positive [hPre_q_scales_positive : Cert.Pre_q_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_q_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_q_scales_positive [hPre_q_scales_positive : Cert.Pre_q_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_q_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_q_scales_positive [hKernelIdeal : Cert.KernelIdeal.Facts] [hPre_q_scales_positive : Cert.Pre_q_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_q_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_q_scales_positive [hReferenceIdeal : Cert.ReferenceIdeal.Facts] [hPre_q_scales_positive : Cert.Pre_q_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_q_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_q_scales_positive [hKernelIdeal : Cert.KernelIdeal.Facts] [hReferenceIdeal : Cert.ReferenceIdeal.Facts] [hPre_q_scales_positive : Cert.Pre_q_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_q_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_q_scales_positive : Cert.Pre_q_scales_positive.Facts),
    quiescent_Kernel (hKernel := hKernel)
    ∧ quiescent_KernelIdeal (hKernelIdeal := hKernelIdeal)
    ∧ quiescent_KernelIdeal_pre_q_scales_positive (hKernelIdeal := hKernelIdeal) (hPre_q_scales_positive := hPre_q_scales_positive)
    ∧ quiescent_ReferenceIdeal (hReferenceIdeal := hReferenceIdeal)
    ∧ quiescent_ReferenceIdeal_pre_q_scales_positive (hReferenceIdeal := hReferenceIdeal) (hPre_q_scales_positive := hPre_q_scales_positive)
    ∧ preserves_Kernel_KernelIdeal
    ∧ algebraic_KernelIdeal_ReferenceIdeal_pre_q_scales_positive (hKernelIdeal := hKernelIdeal) (hReferenceIdeal := hReferenceIdeal) (hPre_q_scales_positive := hPre_q_scales_positive)
-- ==== Pre_q_scales_positive.lean ====
abbrev S2x32768x512 : Shape := ⟨3, ![2, 32768, 512]⟩
abbrev S2x32768x8 : Shape := ⟨3, ![2, 32768, 8]⟩
abbrev S2x32768x128 : Shape := ⟨3, ![2, 32768, 128]⟩
abbrev S2x32768x2 : Shape := ⟨3, ![2, 32768, 2]⟩
abbrev S2x2 : Shape := ⟨2, ![2, 2]⟩
abbrev S_ : Shape := ⟨0, ![]⟩

class Facts : Prop where
  bcast_S_S2x32768x8 : S_.BroadcastsInDim S2x32768x8 (![] : Fin 0 → Fin S2x32768x8.rank)

variable [Facts]

def fn {F : FTy → Type} [FloatOps F] (main_arg0 : FVec F S2x32768x512 .fp8e4m3) (main_arg1 : FVec F S2x32768x8 .f32) (main_arg2 : FVec F S2x32768x128 .fp8e4m3) (main_arg3 : FVec F S2x32768x2 .f32) (main_arg4 : FVec F S2x32768x128 .fp8e4m3) (main_arg5 : FVec F S2x2 .f32) : IVec S2x32768x8 1 :=
  let main_cst : FVec F S_ .f32 := constant S_ .f32 0x00000000#32
  let main_v0 : FVec F S2x32768x8 .f32 := broadcastInDim S2x32768x8 ![] bcast_S_S2x32768x8 main_cst
  let main_v1 : IVec S2x32768x8 1 := cmpf .ogt main_arg1 main_v0
  main_v1
-- ==== Kernel.lean ====
abbrev S2x32768x512 : Shape := ⟨3, ![2, 32768, 512]⟩
abbrev S2x32768x8 : Shape := ⟨3, ![2, 32768, 8]⟩
abbrev S2x32768x128 : Shape := ⟨3, ![2, 32768, 128]⟩
abbrev S2x32768x2 : Shape := ⟨3, ![2, 32768, 2]⟩
abbrev S2x2 : Shape := ⟨2, ![2, 2]⟩
abbrev S2x512x32768 : Shape := ⟨3, ![2, 512, 32768]⟩
abbrev S2x8x32768 : Shape := ⟨3, ![2, 8, 32768]⟩
abbrev S2x4x2x32768 : Shape := ⟨4, ![2, 4, 2, 32768]⟩
abbrev S2x2x32768 : Shape := ⟨3, ![2, 2, 32768]⟩
abbrev S2x2x32768x1 : Shape := ⟨4, ![2, 2, 32768, 1]⟩
abbrev S2x2x32768x128 : Shape := ⟨4, ![2, 2, 32768, 128]⟩
abbrev S2x128x32768 : Shape := ⟨3, ![2, 128, 32768]⟩
abbrev S4x1x1 : Shape := ⟨3, ![4, 1, 1]⟩
abbrev S1x32768x128 : Shape := ⟨3, ![1, 32768, 128]⟩
abbrev S1x1x32768x128 : Shape := ⟨4, ![1, 1, 32768, 128]⟩
abbrev S1x64x32768 : Shape := ⟨3, ![1, 64, 32768]⟩
abbrev S1x128x128 : Shape := ⟨3, ![1, 128, 128]⟩
abbrev S1x1x2x128 : Shape := ⟨4, ![1, 1, 2, 128]⟩
abbrev S1x1x1 : Shape := ⟨3, ![1, 1, 1]⟩
abbrev S32768x256 : Shape := ⟨2, ![32768, 256]⟩
abbrev S1024x256 : Shape := ⟨2, ![1024, 256]⟩
abbrev S64x256 : Shape := ⟨2, ![64, 256]⟩
abbrev S8x256 : Shape := ⟨2, ![8, 256]⟩
abbrev S1x64x128 : Shape := ⟨3, ![1, 64, 128]⟩
abbrev S64x128 : Shape := ⟨2, ![64, 128]⟩
abbrev S128x256 : Shape := ⟨2, ![128, 256]⟩
abbrev S1x1x1x128 : Shape := ⟨4, ![1, 1, 1, 128]⟩
abbrev S1x128 : Shape := ⟨2, ![1, 128]⟩
abbrev S1x256 : Shape := ⟨2, ![1, 256]⟩
abbrev S1x1024x128 : Shape := ⟨3, ![1, 1024, 128]⟩
abbrev S1024x128 : Shape := ⟨2, ![1024, 128]⟩
abbrev S1x1x64x128 : Shape := ⟨4, ![1, 1, 64, 128]⟩
abbrev S256 : Shape := ⟨1, ![256]⟩
abbrev S1x64x1024 : Shape := ⟨3, ![1, 64, 1024]⟩
abbrev S64x1024 : Shape := ⟨2, ![64, 1024]⟩
abbrev S128x128 : Shape := ⟨2, ![128, 128]⟩
abbrev S2x128 : Shape := ⟨2, ![2, 128]⟩

abbrev nBuf : Space → Nat
  | .hbm => 16
  | .vmem => 16
  | .smem => 2
  | _ => 0

abbrev bufTy : (tb : Table) → Fin (tcTables nBuf tb) → BufTy
  | .hbm, ⟨0, _⟩ => ⟨S2x32768x512, .fp8e4m3⟩
  | .hbm, ⟨1, _⟩ => ⟨S2x32768x8, .f32⟩
  | .hbm, ⟨2, _⟩ => ⟨S2x32768x128, .fp8e4m3⟩
  | .hbm, ⟨3, _⟩ => ⟨S2x32768x2, .f32⟩
  | .hbm, ⟨4, _⟩ => ⟨S2x32768x128, .fp8e4m3⟩
  | .hbm, ⟨5, _⟩ => ⟨S2x2, .f32⟩
  | .hbm, ⟨6, _⟩ => ⟨S2x512x32768, .fp8e4m3⟩
  | .hbm, ⟨7, _⟩ => ⟨S2x8x32768, .f32⟩
  | .hbm, ⟨8, _⟩ => ⟨S2x4x2x32768, .f32⟩
  | .hbm, ⟨9, _⟩ => ⟨S2x2x32768, .f32⟩
  | .hbm, ⟨10, _⟩ => ⟨S2x2x32768x1, .f32⟩
  | .hbm, ⟨11, _⟩ => ⟨S2x2x32768x128, .f32⟩
  | .hbm, ⟨12, _⟩ => ⟨S2x128x32768, .fp8e4m3⟩
  | .hbm, ⟨13, _⟩ => ⟨S4x1x1, .f32⟩
  | .hbm, ⟨14, _⟩ => ⟨S2x32768x512, .bf16⟩
  | .hbm, ⟨15, _⟩ => ⟨S2x4x2x32768, .f32⟩
  | .local _ .vmem, ⟨0, _⟩ => ⟨S1x32768x128, .fp8e4m3⟩
  | .local _ .vmem, ⟨1, _⟩ => ⟨S1x1x32768x128, .f32⟩
  | .local _ .vmem, ⟨2, _⟩ => ⟨S1x64x32768, .fp8e4m3⟩
  | .local _ .vmem, ⟨3, _⟩ => ⟨S1x128x128, .fp8e4m3⟩
  | .local _ .vmem, ⟨4, _⟩ => ⟨S1x128x128, .fp8e4m3⟩
  | .local _ .vmem, ⟨5, _⟩ => ⟨S1x1x2x128, .f32⟩
  | .local _ .vmem, ⟨6, _⟩ => ⟨S1x1x2x128, .f32⟩
  | .local _ .vmem, ⟨7, _⟩ => ⟨S1x128x128, .bf16⟩
  | .local _ .vmem, ⟨8, _⟩ => ⟨S1x128x128, .bf16⟩
  | .local _ .vmem, ⟨9, _⟩ => ⟨S1x1x2x128, .f32⟩
  | .local _ .vmem, ⟨10, _⟩ => ⟨S1x1x2x128, .f32⟩
  | .local _ .vmem, ⟨11, _⟩ => ⟨S32768x256, .f32⟩
  | .local _ .vmem, ⟨12, _⟩ => ⟨S1024x256, .fp8e4m3⟩
  | .local _ .vmem, ⟨13, _⟩ => ⟨S64x256, .f32⟩
  | .local _ .vmem, ⟨14, _⟩ => ⟨S8x256, .f32⟩
  | .local _ .vmem, ⟨15, _⟩ => ⟨S8x256, .f32⟩
  | .local _ .smem, ⟨0, _⟩ => ⟨S1x1x1, .f32⟩
  | .local _ .smem, ⟨1, _⟩ => ⟨S1x1x1, .f32⟩
  | _, _ => ⟨S2x32768x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_stg5_0 : Ref sig .tc := ⟨.smem, 0, rfl⟩
abbrev cc0_stg5_1 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨4, ![2, 2, 256, 2], ![false, false, false, false]⟩

@[reducible] def k0_t1_loop (i : grid0.Coords) : Scf.Loop 32 :=
  let c0_i32_28 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v52 : BitVec 32 := Scalar.subi v17 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let c1_i32_30 : BitVec 32 := 1#32
  ⟨c0_i32_28, v56, c1_i32_30⟩
def k0_mult1 (i : grid0.Coords) (k0_t1 : Fin (k0_t1_loop i).trips) : BitVec 32 :=
  let c0_i32_28 : BitVec 32 := 0#32
  let c1_i32_30 : BitVec 32 := 1#32
  let arg17 : BitVec 32 := Scf.iv c0_i32_28 c1_i32_30 k0_t1
  let c1024_i32_166 : BitVec 32 := 1024#32
  let v732 : BitVec 32 := Scalar.muli arg17 c1024_i32_166
  v732
def k0_off1 (i : grid0.Coords) (k0_t1 : Fin (k0_t1_loop i).trips) : Fin 3 → Nat :=
  let c0_167 : Index := 0#32
  let c0_i32_28 : BitVec 32 := 0#32
  let c1_i32_30 : BitVec 32 := 1#32
  let arg17 : BitVec 32 := Scf.iv c0_i32_28 c1_i32_30 k0_t1
  let c1024_i32_166 : BitVec 32 := 1024#32
  let v732 : BitVec 32 := Scalar.muli arg17 c1024_i32_166
  let v733 : BitVec 32 := v732
  let v734 : Index := Scalar.indexCast v733
  let c0_168 : Index := 0#32
  ![0, v734.toNat, 0]
def k0_off2 (i : grid0.Coords) (k0_t1 : Fin (k0_t1_loop i).trips) (c0_i32_172 : BitVec 32) : Fin 4 → Nat :=
  let c0_173 : Index := 0#32
  let c0_174 : Index := 0#32
  let c0_i32_28 : BitVec 32 := 0#32
  let c1_i32_30 : BitVec 32 := 1#32
  let arg17 : BitVec 32 := Scf.iv c0_i32_28 c1_i32_30 k0_t1
  let c1024_i32_166 : BitVec 32 := 1024#32
  let v732 : BitVec 32 := Scalar.muli arg17 c1024_i32_166
  let v733 : BitVec 32 := v732
  let v739 : BitVec 32 := Scalar.addi v733 c0_i32_172
  let v740 : Index := Scalar.indexCast v739
  let c0_175 : Index := 0#32
  ![0, 0, v740.toNat, 0]
def k0_off3 (i : grid0.Coords) (k0_t1 : Fin (k0_t1_loop i).trips) (c0_i32_172 : BitVec 32) : Fin 2 → Nat :=
  let c0_i32_28 : BitVec 32 := 0#32
  let c1_i32_30 : BitVec 32 := 1#32
  let arg17 : BitVec 32 := Scf.iv c0_i32_28 c1_i32_30 k0_t1
  let c1024_i32_166 : BitVec 32 := 1024#32
  let v732 : BitVec 32 := Scalar.muli arg17 c1024_i32_166
  let v733 : BitVec 32 := v732
  let v739 : BitVec 32 := Scalar.addi v733 c0_i32_172
  let v746 : Index := Scalar.indexCast v739
  let c0_176 : Index := 0#32
  ![v746.toNat, 0]
@[reducible] def k0_t2_loop (i : grid0.Coords) : Scf.Loop 32 :=
  let c0_i32_28 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v52 : BitVec 32 := Scalar.subi v17 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let v53 : BitVec 32 := Scalar.addi c0_i32_28 v52
  let c1_i32_31 : BitVec 32 := 1#32
  ⟨v56, v53, c1_i32_31⟩
def k0_mult2 (i : grid0.Coords) (k0_t2 : Fin (k0_t2_loop i).trips) : BitVec 32 :=
  let c0_i32_28 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v52 : BitVec 32 := Scalar.subi v17 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let c1_i32_31 : BitVec 32 := 1#32
  let arg17 : BitVec 32 := Scf.iv v56 c1_i32_31 k0_t2
  let c1024_i32_166 : BitVec 32 := 1024#32
  let v732 : BitVec 32 := Scalar.muli arg17 c1024_i32_166
  v732
def k0_off4 (i : grid0.Coords) (k0_t2 : Fin (k0_t2_loop i).trips) : Fin 3 → Nat :=
  let c0_167 : Index := 0#32
  let c0_i32_28 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v52 : BitVec 32 := Scalar.subi v17 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let c1_i32_31 : BitVec 32 := 1#32
  let arg17 : BitVec 32 := Scf.iv v56 c1_i32_31 k0_t2
  let c1024_i32_166 : BitVec 32 := 1024#32
  let v732 : BitVec 32 := Scalar.muli arg17 c1024_i32_166
  let v733 : BitVec 32 := v732
  let v734 : Index := Scalar.indexCast v733
  let c0_168 : Index := 0#32
  ![0, v734.toNat, 0]
def k0_off5 (i : grid0.Coords) (k0_t2 : Fin (k0_t2_loop i).trips) (c0_i32_172 : BitVec 32) : Fin 4 → Nat :=
  let c0_173 : Index := 0#32
  let c0_174 : Index := 0#32
  let c0_i32_28 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v52 : BitVec 32 := Scalar.subi v17 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let c1_i32_31 : BitVec 32 := 1#32
  let arg17 : BitVec 32 := Scf.iv v56 c1_i32_31 k0_t2
  let c1024_i32_166 : BitVec 32 := 1024#32
  let v732 : BitVec 32 := Scalar.muli arg17 c1024_i32_166
  let v733 : BitVec 32 := v732
  let v739 : BitVec 32 := Scalar.addi v733 c0_i32_172
  let v740 : Index := Scalar.indexCast v739
  let c0_175 : Index := 0#32
  ![0, 0, v740.toNat, 0]
def k0_off6 (i : grid0.Coords) (k0_t2 : Fin (k0_t2_loop i).trips) (c0_i32_172 : BitVec 32) : Fin 2 → Nat :=
  let c0_i32_28 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v52 : BitVec 32 := Scalar.subi v17 c0_i32_28
  let c1_i32_29 : BitVec 32 := 1#32
  let v54 : BitVec 32 := Scalar.divsi v52 c1_i32_29
  let v55 : BitVec 32 := Scalar.muli v54 c1_i32_29
  let v56 : BitVec 32 := Scalar.addi c0_i32_28 v55
  let c1_i32_31 : BitVec 32 := 1#32
  let arg17 : BitVec 32 := Scf.iv v56 c1_i32_31 k0_t2
  let c1024_i32_166 : BitVec 32 := 1024#32
  let v732 : BitVec 32 := Scalar.muli arg17 c1024_i32_166
  let v733 : BitVec 32 := v732
  let v739 : BitVec 32 := Scalar.addi v733 c0_i32_172
  let v746 : Index := Scalar.indexCast v739
  let c0_176 : Index := 0#32
  ![v746.toNat, 0]
def k0_mult3 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_32 : BitVec 32 := 1024#32
  let v57 : BitVec 32 := Scalar.muli v17 c1024_i32_32
  v57
def k0_off7 (i : grid0.Coords) : Fin 3 → Nat :=
  let c0_33 : Index := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_32 : BitVec 32 := 1024#32
  let v57 : BitVec 32 := Scalar.muli v17 c1024_i32_32
  let v58 : BitVec 32 := v57
  let v59 : Index := Scalar.indexCast v58
  let c0_34 : Index := 0#32
  ![0, v59.toNat, 0]
def k0_off8 (i : grid0.Coords) (c0_i32_38 : BitVec 32) : Fin 4 → Nat :=
  let c0_39 : Index := 0#32
  let c0_40 : Index := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_32 : BitVec 32 := 1024#32
  let v57 : BitVec 32 := Scalar.muli v17 c1024_i32_32
  let v58 : BitVec 32 := v57
  let v64 : BitVec 32 := Scalar.addi v58 c0_i32_38
  let v65 : Index := Scalar.indexCast v64
  let c0_41 : Index := 0#32
  ![0, 0, v65.toNat, 0]
def k0_off9 (i : grid0.Coords) (c0_i32_38 : BitVec 32) : Fin 2 → Nat :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_32 : BitVec 32 := 1024#32
  let v57 : BitVec 32 := Scalar.muli v17 c1024_i32_32
  let v58 : BitVec 32 := v57
  let v64 : BitVec 32 := Scalar.addi v58 c0_i32_38
  let v82 : Index := Scalar.indexCast v64
  let c0_43 : Index := 0#32
  ![v82.toNat, 0]
@[reducible] def k0_t3_loop (i : grid0.Coords) : Scf.Loop 32 :=
  let c0_i32_143 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_141 : BitVec 32 := 1#32
  let v687 : BitVec 32 := Scalar.addi v17 c1_i32_141
  let v688 : BitVec 32 := Scalar.subi v687 c0_i32_143
  let c1_i32_144 : BitVec 32 := 1#32
  let v690 : BitVec 32 := Scalar.divsi v688 c1_i32_144
  let v691 : BitVec 32 := Scalar.muli v690 c1_i32_144
  let v692 : BitVec 32 := Scalar.addi c0_i32_143 v691
  let c1_i32_145 : BitVec 32 := 1#32
  ⟨c0_i32_143, v692, c1_i32_145⟩
def k0_mult4 (i : grid0.Coords) (k0_t3 : Fin (k0_t3_loop i).trips) : BitVec 32 :=
  let c0_i32_143 : BitVec 32 := 0#32
  let c1_i32_145 : BitVec 32 := 1#32
  let arg17 : BitVec 32 := Scf.iv c0_i32_143 c1_i32_145 k0_t3
  let c1024_i32_166 : BitVec 32 := 1024#32
  let v732 : BitVec 32 := Scalar.muli arg17 c1024_i32_166
  v732
def k0_off10 (i : grid0.Coords) (k0_t3 : Fin (k0_t3_loop i).trips) (c0_i32_169 : BitVec 32) : Fin 2 → Nat :=
  let c0_i32_143 : BitVec 32 := 0#32
  let c1_i32_145 : BitVec 32 := 1#32
  let arg17 : BitVec 32 := Scf.iv c0_i32_143 c1_i32_145 k0_t3
  let c1024_i32_166 : BitVec 32 := 1024#32
  let v732 : BitVec 32 := Scalar.muli arg17 c1024_i32_166
  let v733 : BitVec 32 := v732
  let v735 : BitVec 32 := Scalar.addi v733 c0_i32_169
  let v736 : Index := Scalar.indexCast v735
  let c0_170 : Index := 0#32
  ![v736.toNat, 0]
def k0_off11 (i : grid0.Coords) (k0_t3 : Fin (k0_t3_loop i).trips) : Fin 3 → Nat :=
  let c0_255 : Index := 0#32
  let c0_256 : Index := 0#32
  let c0_i32_143 : BitVec 32 := 0#32
  let c1_i32_145 : BitVec 32 := 1#32
  let arg17 : BitVec 32 := Scf.iv c0_i32_143 c1_i32_145 k0_t3
  let c1024_i32_166 : BitVec 32 := 1024#32
  let v732 : BitVec 32 := Scalar.muli arg17 c1024_i32_166
  let v733 : BitVec 32 := v732
  let v1219 : Index := Scalar.indexCast v733
  ![0, 0, v1219.toNat]
@[reducible] def k0_t4_loop (i : grid0.Coords) : Scf.Loop 32 :=
  let c0_i32_143 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_141 : BitVec 32 := 1#32
  let v687 : BitVec 32 := Scalar.addi v17 c1_i32_141
  let v688 : BitVec 32 := Scalar.subi v687 c0_i32_143
  let c1_i32_144 : BitVec 32 := 1#32
  let v690 : BitVec 32 := Scalar.divsi v688 c1_i32_144
  let v691 : BitVec 32 := Scalar.muli v690 c1_i32_144
  let v692 : BitVec 32 := Scalar.addi c0_i32_143 v691
  let v689 : BitVec 32 := Scalar.addi c0_i32_143 v688
  let c1_i32_146 : BitVec 32 := 1#32
  ⟨v692, v689, c1_i32_146⟩
def k0_mult5 (i : grid0.Coords) (k0_t4 : Fin (k0_t4_loop i).trips) : BitVec 32 :=
  let c0_i32_143 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_141 : BitVec 32 := 1#32
  let v687 : BitVec 32 := Scalar.addi v17 c1_i32_141
  let v688 : BitVec 32 := Scalar.subi v687 c0_i32_143
  let c1_i32_144 : BitVec 32 := 1#32
  let v690 : BitVec 32 := Scalar.divsi v688 c1_i32_144
  let v691 : BitVec 32 := Scalar.muli v690 c1_i32_144
  let v692 : BitVec 32 := Scalar.addi c0_i32_143 v691
  let c1_i32_146 : BitVec 32 := 1#32
  let arg17 : BitVec 32 := Scf.iv v692 c1_i32_146 k0_t4
  let c1024_i32_166 : BitVec 32 := 1024#32
  let v732 : BitVec 32 := Scalar.muli arg17 c1024_i32_166
  v732
def k0_off12 (i : grid0.Coords) (k0_t4 : Fin (k0_t4_loop i).trips) (c0_i32_169 : BitVec 32) : Fin 2 → Nat :=
  let c0_i32_143 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_141 : BitVec 32 := 1#32
  let v687 : BitVec 32 := Scalar.addi v17 c1_i32_141
  let v688 : BitVec 32 := Scalar.subi v687 c0_i32_143
  let c1_i32_144 : BitVec 32 := 1#32
  let v690 : BitVec 32 := Scalar.divsi v688 c1_i32_144
  let v691 : BitVec 32 := Scalar.muli v690 c1_i32_144
  let v692 : BitVec 32 := Scalar.addi c0_i32_143 v691
  let c1_i32_146 : BitVec 32 := 1#32
  let arg17 : BitVec 32 := Scf.iv v692 c1_i32_146 k0_t4
  let c1024_i32_166 : BitVec 32 := 1024#32
  let v732 : BitVec 32 := Scalar.muli arg17 c1024_i32_166
  let v733 : BitVec 32 := v732
  let v735 : BitVec 32 := Scalar.addi v733 c0_i32_169
  let v736 : Index := Scalar.indexCast v735
  let c0_170 : Index := 0#32
  ![v736.toNat, 0]
def k0_off13 (i : grid0.Coords) (k0_t4 : Fin (k0_t4_loop i).trips) : Fin 3 → Nat :=
  let c0_255 : Index := 0#32
  let c0_256 : Index := 0#32
  let c0_i32_143 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_141 : BitVec 32 := 1#32
  let v687 : BitVec 32 := Scalar.addi v17 c1_i32_141
  let v688 : BitVec 32 := Scalar.subi v687 c0_i32_143
  let c1_i32_144 : BitVec 32 := 1#32
  let v690 : BitVec 32 := Scalar.divsi v688 c1_i32_144
  let v691 : BitVec 32 := Scalar.muli v690 c1_i32_144
  let v692 : BitVec 32 := Scalar.addi c0_i32_143 v691
  let c1_i32_146 : BitVec 32 := 1#32
  let arg17 : BitVec 32 := Scf.iv v692 c1_i32_146 k0_t4
  let c1024_i32_166 : BitVec 32 := 1024#32
  let v732 : BitVec 32 := Scalar.muli arg17 c1024_i32_166
  let v733 : BitVec 32 := v732
  let v1219 : Index := Scalar.indexCast v733
  ![0, 0, v1219.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c0_i32 : BitVec 32 := 0#32
  ![arg0.toNat, v1.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c0_i32 : BitVec 32 := 0#32
  let c0_i32_0 : BitVec 32 := 0#32
  ![arg0.toNat, v1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c0_i32 : BitVec 32 := 0#32
  ![arg0.toNat, arg2.toNat, v1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c0_i32 : BitVec 32 := 0#32
  let c0_i32_0 : BitVec 32 := 0#32
  ![arg0.toNat, v1.toNat, c0_i32.toNat, arg2.toNat]

abbrev stage0_0 : Fin 1 → Memref sig .tc .vmem S1x32768x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, false]

abbrev stage0_1 : Fin 1 → Memref sig .tc .vmem S1x1x32768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false, false]

abbrev stage0_2 : Fin 1 → Memref sig .tc .vmem S1x64x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]

abbrev stage0_3 : Fin 2 → Memref sig .tc .vmem S1x128x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .smem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S1x1x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S2x32768x512 : Shape := ⟨3, ![2, 32768, 512]⟩
abbrev S2x32768x8 : Shape := ⟨3, ![2, 32768, 8]⟩
abbrev S2x32768x128 : Shape := ⟨3, ![2, 32768, 128]⟩
abbrev S2x32768x2 : Shape := ⟨3, ![2, 32768, 2]⟩
abbrev S2x2 : Shape := ⟨2, ![2, 2]⟩
abbrev S2x32768x8x64 : Shape := ⟨4, ![2, 32768, 8, 64]⟩
abbrev S2x8x32768x64 : Shape := ⟨4, ![2, 8, 32768, 64]⟩
abbrev S16x32768x64 : Shape := ⟨3, ![16, 32768, 64]⟩
abbrev S2x32768x2x64 : Shape := ⟨4, ![2, 32768, 2, 64]⟩
abbrev S2x2x32768x64 : Shape := ⟨4, ![2, 2, 32768, 64]⟩
abbrev S2x2x4x32768x64 : Shape := ⟨5, ![2, 2, 4, 32768, 64]⟩
abbrev S2x8x32768 : Shape := ⟨3, ![2, 8, 32768]⟩
abbrev S16x32768x1 : Shape := ⟨3, ![16, 32768, 1]⟩
abbrev S2x2x32768 : Shape := ⟨3, ![2, 2, 32768]⟩
abbrev S2x2x1x32768 : Shape := ⟨4, ![2, 2, 1, 32768]⟩
abbrev S2x2x4x1x32768 : Shape := ⟨5, ![2, 2, 4, 1, 32768]⟩
abbrev S2x8x1x32768 : Shape := ⟨4, ![2, 8, 1, 32768]⟩
abbrev S16x1x32768 : Shape := ⟨3, ![16, 1, 32768]⟩
abbrev S2x2x1x1 : Shape := ⟨4, ![2, 2, 1, 1]⟩
abbrev S2x2x4x1x1 : Shape := ⟨5, ![2, 2, 4, 1, 1]⟩
abbrev S2x8x1x1 : Shape := ⟨4, ![2, 8, 1, 1]⟩
abbrev S16x1x1 : Shape := ⟨3, ![16, 1, 1]⟩
abbrev S16x32768x32768 : Shape := ⟨3, ![16, 32768, 32768]⟩
abbrev S16x32768 : Shape := ⟨2, ![16, 32768]⟩
abbrev S2x4x2x32768 : Shape := ⟨4, ![2, 4, 2, 32768]⟩

abbrev nBuf : Space → Nat
  | .hbm => 36
  | .vmem => 8
  | .smem => 0
  | _ => 0

abbrev bufTy : (tb : Table) → Fin (tcTables nBuf tb) → BufTy
  | .hbm, ⟨0, _⟩ => ⟨S2x32768x512, .fp8e4m3⟩
  | .hbm, ⟨1, _⟩ => ⟨S2x32768x8, .f32⟩
  | .hbm, ⟨2, _⟩ => ⟨S2x32768x128, .fp8e4m3⟩
  | .hbm, ⟨3, _⟩ => ⟨S2x32768x2, .f32⟩
  | .hbm, ⟨4, _⟩ => ⟨S2x32768x128, .fp8e4m3⟩
  | .hbm, ⟨5, _⟩ => ⟨S2x2, .f32⟩
  | .hbm, ⟨6, _⟩ => ⟨S2x32768x8x64, .fp8e4m3⟩
  | .hbm, ⟨7, _⟩ => ⟨S2x8x32768x64, .fp8e4m3⟩
  | .hbm, ⟨8, _⟩ => ⟨S16x32768x64, .fp8e4m3⟩
  | .hbm, ⟨9, _⟩ => ⟨S2x32768x2x64, .fp8e4m3⟩
  | .hbm, ⟨10, _⟩ => ⟨S2x2x32768x64, .fp8e4m3⟩
  | .hbm, ⟨11, _⟩ => ⟨S2x2x4x32768x64, .fp8e4m3⟩
  | .hbm, ⟨12, _⟩ => ⟨S2x8x32768x64, .fp8e4m3⟩
  | .hbm, ⟨13, _⟩ => ⟨S16x32768x64, .fp8e4m3⟩
  | .hbm, ⟨14, _⟩ => ⟨S2x32768x2x64, .fp8e4m3⟩
  | .hbm, ⟨15, _⟩ => ⟨S2x2x32768x64, .fp8e4m3⟩
  | .hbm, ⟨16, _⟩ => ⟨S2x2x4x32768x64, .fp8e4m3⟩
  | .hbm, ⟨17, _⟩ => ⟨S2x8x32768x64, .fp8e4m3⟩
  | .hbm, ⟨18, _⟩ => ⟨S16x32768x64, .fp8e4m3⟩
  | .hbm, ⟨19, _⟩ => ⟨S2x8x32768, .f32⟩
  | .hbm, ⟨20, _⟩ => ⟨S16x32768x1, .f32⟩
  | .hbm, ⟨21, _⟩ => ⟨S2x2x32768, .f32⟩
  | .hbm, ⟨22, _⟩ => ⟨S2x2x1x32768, .f32⟩
  | .hbm, ⟨23, _⟩ => ⟨S2x2x4x1x32768, .f32⟩
  | .hbm, ⟨24, _⟩ => ⟨S2x8x1x32768, .f32⟩
  | .hbm, ⟨25, _⟩ => ⟨S16x1x32768, .f32⟩
  | .hbm, ⟨26, _⟩ => ⟨S2x2x1x1, .f32⟩
  | .hbm, ⟨27, _⟩ => ⟨S2x2x4x1x1, .f32⟩
  | .hbm, ⟨28, _⟩ => ⟨S2x8x1x1, .f32⟩
  | .hbm, ⟨29, _⟩ => ⟨S16x1x1, .f32⟩
  | .hbm, ⟨30, _⟩ => ⟨S16x32768x64, .bf16⟩
  | .hbm, ⟨31, _⟩ => ⟨S16x32768x1, .f32⟩
  | .hbm, ⟨32, _⟩ => ⟨S2x8x32768x64, .bf16⟩
  | .hbm, ⟨33, _⟩ => ⟨S2x32768x8x64, .bf16⟩
  | .hbm, ⟨34, _⟩ => ⟨S2x32768x512, .bf16⟩
  | .hbm, ⟨35, _⟩ => ⟨S2x4x2x32768, .f32⟩
  | .local _ .vmem, ⟨0, _⟩ => ⟨S16x32768x64, .fp8e4m3⟩
  | .local _ .vmem, ⟨1, _⟩ => ⟨S16x32768x1, .f32⟩
  | .local _ .vmem, ⟨2, _⟩ => ⟨S16x32768x64, .fp8e4m3⟩
  | .local _ .vmem, ⟨3, _⟩ => ⟨S16x1x32768, .f32⟩
  | .local _ .vmem, ⟨4, _⟩ => ⟨S16x32768x64, .fp8e4m3⟩
  | .local _ .vmem, ⟨5, _⟩ => ⟨S16x1x1, .f32⟩
  | .local _ .vmem, ⟨6, _⟩ => ⟨S16x32768x64, .bf16⟩
  | .local _ .vmem, ⟨7, _⟩ => ⟨S16x32768x1, .f32⟩
  | _, _ => ⟨S2x32768x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x32768x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32768x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32768x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x32768x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x32768x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Offsets.lean ====
/- The grid point's loop counts and the offsets of the loops' loads and stores, in closed form. -/
module

public import proofs.«01_k».proof.Defs
public import proofs.«01_k».proof.Proof.Gen.KernelIdeal.Frame
public import proofs.«01_k».proof.Proof.Gen.KernelIdeal.Loops
public import Idealize.ShloMosaic.Lib.Exec
public import Idealize.ShloMosaic.Lib.Tactic

@[expose] public section

noncomputable section

namespace Cert.Proof.KernelIdeal

open Cert.KernelIdeal
open Idealize.ShloMosaic Idealize.ShloMosaic.Tactic

/-- The grid's point of query tile `n`, every other coordinate zero: what the loops and offsets read of a point is its tile. -/
def tile (n : Fin 256) : grid0.Coords := fun a =>
  if h : a = 2 then ⟨n.val, by subst h; exact n.isLt⟩ else ⟨0, by revert a; decide⟩

/-- The scores loop goes over the whole chunks of 1024 keys before the query tile's own. -/
theorem trips1 (i : grid0.Coords) : (k0_t1_loop i).trips = (i 2).val / 8 := by
  have h : ∀ n : Fin 256, (k0_t1_loop (tile n)).trips = n.val / 8 := by decide +kernel
  exact h (i 2)

/-- The scores loop's remainder is empty. -/
theorem trips2 (i : grid0.Coords) : (k0_t2_loop i).trips = 0 := by
  have h : ∀ n : Fin 256, (k0_t2_loop (tile n)).trips = 0 := by decide +kernel
  exact h (i 2)

/-- The values loop goes over the whole chunks and the query tile's own. -/
theorem trips3 (i : grid0.Coords) : (k0_t3_loop i).trips = (i 2).val / 8 + 1 := by
  have h : ∀ n : Fin 256, (k0_t3_loop (tile n)).trips = n.val / 8 + 1 := by decide +kernel
  exact h (i 2)

/-- The values loop's remainder is empty. -/
theorem trips4 (i : grid0.Coords) : (k0_t4_loop i).trips = 0 := by
  have h : ∀ n : Fin 256, (k0_t4_loop (tile n)).trips = 0 := by decide +kernel
  exact h (i 2)

/-- The word a trip computes for its chunk's first row, moved by a literal. -/
theorem chunk_word (k n : Nat) (hk : k < 33) :
    ((Scf.iv 0#32 1#32 k : BitVec 32) * 1024#32 + BitVec.ofNat 32 n).toNat = (1024 * k + n) % 4294967296 := by
  simp only [Scf.iv, BitVec.toNat_add, BitVec.toNat_mul, BitVec.toNat_ofNat]
  omega

theorem lt1 (i : grid0.Coords) (k : Fin (k0_t1_loop i).trips) : k.val < 33 := by
  have h := lt_of_lt_of_eq k.isLt (trips1 i)
  have h2 : (i 2).val < 256 := (i 2).isLt
  omega

theorem lt3 (i : grid0.Coords) (k : Fin (k0_t3_loop i).trips) : k.val < 33 := by
  have h := lt_of_lt_of_eq k.isLt (trips3 i)
  have h2 : (i 2).val < 256 := (i 2).isLt
  omega

theorem off1_eq (i : grid0.Coords) (k : Fin (k0_t1_loop i).trips) : k0_off1 i k = ![0, 1024 * k.val, 0] := by
  have := lt1 i k
  have h := chunk_word k 0 this
  simp only [BitVec.ofNat_eq_ofNat, BitVec.add_zero] at h
  show ![0, ((Scf.iv 0#32 1#32 k.val : BitVec 32) * 1024#32).toNat, 0] = _
  rw [h]
  congr 2
  omega

theorem off2_eq (i : grid0.Coords) (k : Fin (k0_t1_loop i).trips) (n : Nat) :
    k0_off2 i k (BitVec.ofNat 32 n) = ![0, 0, (1024 * k.val + n) % 4294967296, 0] := by
  show ![0, 0, ((Scf.iv 0#32 1#32 k.val : BitVec 32) * 1024#32 + BitVec.ofNat 32 n).toNat, 0] = _
  rw [chunk_word k n (lt1 i k)]

theorem off3_eq (i : grid0.Coords) (k : Fin (k0_t1_loop i).trips) (n : Nat) :
    k0_off3 i k (BitVec.ofNat 32 n) = ![(1024 * k.val + n) % 4294967296, 0] := by
  show ![((Scf.iv 0#32 1#32 k.val : BitVec 32) * 1024#32 + BitVec.ofNat 32 n).toNat, 0] = _
  rw [chunk_word k n (lt1 i k)]

theorem off10_eq (i : grid0.Coords) (k : Fin (k0_t3_loop i).trips) (n : Nat) :
    k0_off10 i k (BitVec.ofNat 32 n) = ![(1024 * k.val + n) % 4294967296, 0] := by
  show ![((Scf.iv 0#32 1#32 k.val : BitVec 32) * 1024#32 + BitVec.ofNat 32 n).toNat, 0] = _
  rw [chunk_word k n (lt3 i k)]

theorem off11_eq (i : grid0.Coords) (k : Fin (k0_t3_loop i).trips) : k0_off11 i k = ![0, 0, 1024 * k.val] := by
  have := lt3 i k
  have h := chunk_word k 0 this
  simp only [BitVec.ofNat_eq_ofNat, BitVec.add_zero] at h
  show ![0, 0, ((Scf.iv 0#32 1#32 k.val : BitVec 32) * 1024#32).toNat] = _
  rw [h]
  congr 2
  simp only [Matrix.vecCons_inj, and_true, true_and]
  omega

/-- The query tile's own chunk starts at key `1024 · ⌊tile / 8⌋`. -/
theorem off7_eq (i : grid0.Coords) : k0_off7 i = ![0, 1024 * ((i 2).val / 8), 0] := by
  have h : ∀ n : Fin 256, k0_off7 (tile n) = ![0, 1024 * (n.val / 8), 0] := by decide +kernel
  exact h (i 2)

theorem off9_eq (i : grid0.Coords) (n : Nat) :
    k0_off9 i (BitVec.ofNat 32 n) = ![(1024 * ((i 2).val / 8) + n) % 4294967296, 0] := by
  have h : k0_off9 i (BitVec.ofNat 32 n) = ![(BitVec.ofNat 32 (k0_off7 i 1) + BitVec.ofNat 32 n).toNat, 0] := by
    show ![(_ + BitVec.ofNat 32 n).toNat, 0] = ![(BitVec.ofNat 32 (BitVec.toNat _) + BitVec.ofNat 32 n).toNat, 0]
    rw [BitVec.ofNat_toNat, BitVec.setWidth_eq]
    rfl
  rw [h, off7_eq, ← BitVec.ofNat_add, BitVec.toNat_ofNat]
  rfl

theorem off8_eq (i : grid0.Coords) (n : Nat) :
    k0_off8 i (BitVec.ofNat 32 n) = ![0, 0, (1024 * ((i 2).val / 8) + n) % 4294967296, 0] := by
  have h : k0_off8 i (BitVec.ofNat 32 n) = ![0, 0, k0_off9 i (BitVec.ofNat 32 n) 0, 0] := rfl
  rw [h, off9_eq]
  rfl

instance (i : grid0.Coords) (k : Fin (k0_t1_loop i).trips) : ClosedOff (k0_off1 i k) := ⟨_, off1_eq i k⟩
instance (i : grid0.Coords) (k : Fin (k0_t1_loop i).trips) (n : Nat) : ClosedOff (k0_off2 i k (BitVec.ofNat 32 n)) := ⟨_, off2_eq i k n⟩
instance (i : grid0.Coords) (k : Fin (k0_t1_loop i).trips) (n : Nat) : ClosedOff (k0_off3 i k (BitVec.ofNat 32 n)) := ⟨_, off3_eq i k n⟩
instance (i : grid0.Coords) : ClosedOff (k0_off7 i) := ⟨_, off7_eq i⟩
instance (i : grid0.Coords) (n : Nat) : ClosedOff (k0_off8 i (BitVec.ofNat 32 n)) := ⟨_, off8_eq i n⟩
instance (i : grid0.Coords) (n : Nat) : ClosedOff (k0_off9 i (BitVec.ofNat 32 n)) := ⟨_, off9_eq i n⟩
instance (i : grid0.Coords) (k : Fin (k0_t3_loop i).trips) (n : Nat) : ClosedOff (k0_off10 i k (BitVec.ofNat 32 n)) := ⟨_, off10_eq i k n⟩
instance (i : grid0.Coords) (k : Fin (k0_t3_loop i).trips) : ClosedOff (k0_off11 i k) := ⟨_, off11_eq i k⟩

end Cert.Proof.KernelIdeal

end
-- ==== Proof.Scores.lean ====
/- The loop over the whole chunks of keys, gone through once at a symbolic trip: one trip's stores, the stores of the trips
   before the `k`th, and the loop's invariant. -/
module

public import proofs.«01_k».proof.Proof.Offsets
public import Idealize.ShloMosaic.Lib.LoopRemainder

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What one trip holds: the keys (arg4) and their scales (arg5) at their contents, the scores (arg12) and the running maxima
   (arg15) at any. -/
abbrev Trip1 (c : Dev nD) (arg4 : Memref sig .tc .vmem S1x32768x128 .fp8e4m3) (arg5 : Memref sig .tc .vmem S1x1x32768x128 .f32) (arg12 : Memref sig .tc .vmem S32768x256 .f32) (arg15 : Memref sig .tc .vmem S8x256 .f32)
    (X4 : BufTy.Contents (Elt F) arg4.view.ty) (X5 : BufTy.Contents (Elt F) arg5.view.ty) (f12 : BufTy.Contents (Elt F) arg12.view.ty) (f15 : BufTy.Contents (Elt F) arg15.view.ty) : sProp 𝕄G :=
  iprop((arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} f12) ∗ (arg15.view.loc (c : Thread nD τ) ↦[arg15.view.set]{fullShare} f15))

/-- One trip at a symbolic `k`: the pieces it stores into the scores and into the running maxima, as functions of the maxima it
   finds. -/
@[irreducible] def trip1 (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32)
    (X4 : BufTy.Contents (Elt F) arg4.view.ty) (X5 : BufTy.Contents (Elt F) arg5.view.ty) (k : Fin (k0_t1_loop i).trips) :
    Σ' (L12 : BufTy.Contents (Elt F) arg15.view.ty → List (View.Piece (Elt F) S32768x256 .f32)), { L15 : BufTy.Contents (Elt F) arg15.view.ty → List (View.Piece (Elt F) S8x256 .f32) // ∀ (E : Set ℕ) (f12 : BufTy.Contents (Elt F) arg12.view.ty) (f15 : BufTy.Contents (Elt F) arg15.view.ty),
      Trip1 (F := F) c arg4 arg5 arg12 arg15 X4 X5 f12 f15
      ⊢ wp frame (wpE (defs₀ (F := F)) 𝒱 (c : Thread nD τ) bd) E (k0_t1_body (F := F) i arg4 harg4 arg5 harg5 arg6 harg6 arg7 harg7 arg8 harg8 arg9 harg9 arg10 harg10 arg11 harg11 arg12 harg12 arg13 harg13 arg14 harg14 arg15 harg15 arg16 harg16 v17 v30 v32 k PUnit.unit)
          (fun _ => Trip1 (F := F) c arg4 arg5 arg12 arg15 X4 X5 (arg12.view.writes (Elt F) f12 (L12 f15)) (arg15.view.writes (Elt F) f15 (L15 f15))) } := by
  refine ⟨?_, ?_, fun E f12 f15 => ?run⟩
  case run =>
    unfold k0_t1_body
    iintro ⟨H4, H5, H12, H15⟩
    sl_exec
    sl_step
    sl_close

/-- The pieces the trips before `k` stored into the scores and into the running maxima (last first), each trip's taken at what
    the trips before it left over the contents at the loop's entry. -/
def st1 (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32) (X4 : BufTy.Contents (Elt F) arg4.view.ty) (X5 : BufTy.Contents (Elt F) arg5.view.ty) (G15 : BufTy.Contents (Elt F) arg15.view.ty) : ℕ → List (View.Piece (Elt F) S32768x256 .f32) × List (View.Piece (Elt F) S8x256 .f32)
  | 0 => ([], [])
  | k + 1 =>
    let s := st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k
    if h : k < (k0_t1_loop i).trips then
      ((trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 ⟨k, h⟩).1 (arg15.view.writes (Elt F) G15 s.2) ++ s.1, (trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 ⟨k, h⟩).2.1 (arg15.view.writes (Elt F) G15 s.2) ++ s.2)
    else s

theorem st1_succ (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32) (X4 : BufTy.Contents (Elt F) arg4.view.ty) (X5 : BufTy.Contents (Elt F) arg5.view.ty) (G15 : BufTy.Contents (Elt F) arg15.view.ty) (k : Fin (k0_t1_loop i).trips) :
    st1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 (k.val + 1)
      = ((trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 k).1 (arg15.view.writes (Elt F) G15 (st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k.val).2) ++ (st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k.val).1,
         (trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 k).2.1 (arg15.view.writes (Elt F) G15 (st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k.val).2) ++ (st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k.val).2) := by
  rw [st1]; exact dif_pos k.isLt

/-- The invariant before trip `k`: keys and scales as at the entry, scores and running maxima with the pieces `st1` stored over
    the contents at the entry. -/
abbrev inv1 (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32) (X4 : BufTy.Contents (Elt F) arg4.view.ty) (X5 : BufTy.Contents (Elt F) arg5.view.ty) (G12 : BufTy.Contents (Elt F) arg12.view.ty) (G15 : BufTy.Contents (Elt F) arg15.view.ty) (k : ℕ) (_u : PUnit) : sProp 𝕄G :=
  iprop((arg4.view.loc (c : Thread nD τ) ↦[arg4.view.set]{fullShare} X4) ∗ (arg5.view.loc (c : Thread nD τ) ↦[arg5.view.set]{fullShare} X5)
    ∗ (∃ f, (arg12.view.loc (c : Thread nD τ) ↦[arg12.view.set]{fullShare} f) ∗ ⌜f = arg12.view.writes (Elt F) G12 (st1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k).1⌝)
    ∗ (∃ f, (arg15.view.loc (c : Thread nD τ) ↦[arg15.view.set]{fullShare} f) ∗ ⌜f = arg15.view.writes (Elt F) G15 (st1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k).2⌝))

set_option warn.classDefReducibility false in
/-- The loop by its invariant. -/
@[sl_loop] def loopInv_k0_t1 (𝒱 : Variants) (c : Dev nD) (bd : Option 𝒱.V) (E : Set ℕ) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32) (X4 : BufTy.Contents (Elt F) arg4.view.ty) (X5 : BufTy.Contents (Elt F) arg5.view.ty) (G12 : BufTy.Contents (Elt F) arg12.view.ty) (G15 : BufTy.Contents (Elt F) arg15.view.ty) :
    LoopInvTy_k0_t1 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 v17 v30 v32 where
  inv := inv1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G12 G15
  step k acc := by
    iintro ⟨H4, H5, ⟨%f12, H12, %h12⟩, ⟨%f15, H15, %h15⟩⟩
    iapply (wp_wand_r Idealize.ShloMosaic.frame (wpE (defs₀ (F := F)) 𝒱 (c : Thread nD τ) bd) E)
    isplitl [H4 H5 H12 H15]
    · iapply ((trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 k).2.2 E f12 f15)
      isplitl [H4]; · iexact H4
      isplitl [H5]; · iexact H5
      isplitl [H12]; · iexact H12
      iexact H15
    · iintro %_ ⟨H4, H5, H12, H15⟩
      isplitl [H4]; · iexact H4
      isplitl [H5]; · iexact H5
      rw [st1_succ]
      isplitl [H12]
      · iexists _; isplitl [H12]; · iexact H12
        ipureintro; rw [h12, h15, ← View.writes_append]
      iexists _; isplitl [H15]; · iexact H15
      ipureintro; rw [h15, ← View.writes_append]

set_option warn.classDefReducibility false in
/-- The values loop by its generated invariant, at the two values its region reads: the query scales' products and the maxima. -/
@[sl_loop] def loopInv_k0_t3 (𝒱 : Variants) (c : Dev nD) (bd : Option 𝒱.V) (E : Set ℕ) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v39 : FVec F S1x256 .f32) (v675 : Vec F S8x256 .f32) (X6 : BufTy.Contents (Elt F) arg6.view.ty) (X12 : BufTy.Contents (Elt F) arg12.view.ty) (G13 : BufTy.Contents (Elt F) arg13.view.ty) (G14 : BufTy.Contents (Elt F) arg14.view.ty) (G16 : BufTy.Contents (Elt F) arg16.view.ty) :=
  Gen.loopInv_k0_t3 (F := F) 𝒱 c bd E i arg4 harg4 arg5 harg5 arg6 harg6 arg7 harg7 arg8 harg8 arg9 harg9 arg10 harg10 arg11 harg11 arg12 harg12 arg13 harg13 arg14 harg14 arg15 harg15 arg16 harg16 0#32 v39 v675 (constant S64x256 .f32 0x00000000#32) v675 v675 X6 X12 G13 G14 G16

end Cert.Proof.KernelIdeal

end
-- ==== Proof.Body.lean ====
/- The kernel's body at one grid point, run once over symbolic buffers: the pieces it stores into its two results, as functions
   of the inputs' blocks and of what the scratch buffers hold when it starts. -/
module

public import proofs.«01_k».proof.Proof.Scores
public import Idealize.ShloMosaic.Lib.LoopRemainder

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The body at one point: on the six inputs at their blocks, the two results and the five scratch buffers at anything, it ends
    with the inputs as they were, the results written with the pieces the run finds and the scratch at some contents. -/
@[irreducible] def kernelRun (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) :
    Σ' (L10 : BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x128x128 .bf16)), { L11 : BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x1x2x128 .f32) // ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄G)
      ⊢ wp frame (wpE (defs₀ (F := F)) 𝒱 (c : Thread nD τ) bd) E (cc0_attention (F := F) i arg4 harg4 arg5 harg5 arg6 harg6 arg7 harg7 arg8 harg8 arg9 harg9 arg10 harg10 arg11 harg11 arg12 harg12 arg13 harg13 arg14 harg14 arg15 harg15 arg16 harg16)
          (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
            ∗ (arg10.view.loc (c : Thread nD τ) ↦[arg10.view.set]{fullShare} arg10.view.writes (Elt F) f10 (L10 f12 f13 f14 f15 f16)) ∗ (arg11.view.loc (c : Thread nD τ) ↦[arg11.view.set]{fullShare} arg11.view.writes (Elt F) f11 (L11 f12 f13 f14 f15 f16))
            ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))) } := by
  refine ⟨?_, ?_, fun E f10 f11 f12 f13 f14 f15 f16 => ?run⟩
  case run =>
    rw [cc0_attention_eq_skeleton]
    unfold cc0_attention_skel
    iintro ⟨H4, H5, H6, H7, H8, H9, H10, H11, H12, H13, H14, H15, H16⟩
    sl_exec
    sl_step
    sl_close

end Cert.Proof.KernelIdeal

end
-- ==== Proof.Run.lean ====
/- The pipeline's proof data over the body's run, and the run of the program: with what the results hold left unsaid (the
   frame), and with what they hold a given function of the grid point. -/
module

public import proofs.«01_k».proof.Proof.Body

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F] [Named F]

variable (m : (ℓ : Loc nD τ sig) → Buf (Elt F) ℓ) (ρ : Dev nD → PrngReg)

local notation "𝕄G" => MT nD τ sig Unit (Elt F) ℕ (UR sig nD τ) ℕ

/-- The body's run at grid point `t`, on the staging buffers the point is called with. -/
abbrev runAt (c : Dev nD) (t : Fin cfg0.N) (X0 : BufTy.Contents (Elt F) (st0_0 t).view.ty) (X1 : BufTy.Contents (Elt F) (st0_1 t).view.ty) (X2 : BufTy.Contents (Elt F) (st0_2 t).view.ty) (X3 : BufTy.Contents (Elt F) (st0_3 t).view.ty) (X4 : BufTy.Contents (Elt F) (st0_4 t).view.ty) (X5 : BufTy.Contents (Elt F) (st0_5 t).view.ty) :=
  kernelRun (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) X0 X1 X2 X3 X4 X5

/-- What the body leaves in its two results at grid point `t`, whatever the scratch and the results held before, satisfies
    `R6` and `R7`: the inputs' buffers at their blocks. -/
def Leaves (R6 : Dev nD → Fin cfg0.N → Vec F S1x128x128 .bf16 → Prop) (R7 : Dev nD → Fin cfg0.N → Vec F S1x1x2x128 .f32 → Prop) : Prop :=
  ∀ (c : Dev nD) (t : Fin cfg0.N) (X0 : BufTy.Contents (Elt F) (st0_0 t).view.ty) (X1 : BufTy.Contents (Elt F) (st0_1 t).view.ty) (X2 : BufTy.Contents (Elt F) (st0_2 t).view.ty) (X3 : BufTy.Contents (Elt F) (st0_3 t).view.ty) (X4 : BufTy.Contents (Elt F) (st0_4 t).view.ty) (X5 : BufTy.Contents (Elt F) (st0_5 t).view.ty) (f6 : BufTy.Contents (Elt F) (st0_6 t).view.ty) (f7 : BufTy.Contents (Elt F) (st0_7 t).view.ty) (f0 : BufTy.Contents (Elt F) (Memref.whole cc0_scratch0).view.ty) (f1 : BufTy.Contents (Elt F) (Memref.whole cc0_scratch1).view.ty) (f2 : BufTy.Contents (Elt F) (Memref.whole cc0_scratch2).view.ty) (f3 : BufTy.Contents (Elt F) (Memref.whole cc0_scratch3).view.ty) (f4 : BufTy.Contents (Elt F) (Memref.whole cc0_scratch4).view.ty),
    (st0_0 t).view.read (Elt F) X0 = iblk m c 0 t → (st0_1 t).view.read (Elt F) X1 = iblk m c 1 t → (st0_2 t).view.read (Elt F) X2 = iblk m c 2 t → (st0_3 t).view.read (Elt F) X3 = iblk m c 3 t → (st0_4 t).view.read (Elt F) X4 = iblk m c 4 t → (st0_5 t).view.read (Elt F) X5 = iblk m c 5 t →
    R6 c t ((st0_6 t).view.read (Elt F) ((st0_6 t).view.writes (Elt F) f6 ((runAt c t X0 X1 X2 X3 X4 X5).1 f0 f1 f2 f3 f4)))
    ∧ R7 c t ((st0_7 t).view.read (Elt F) ((st0_7 t).view.writes (Elt F) f7 ((runAt c t X0 X1 X2 X3 X4 X5).2.1 f0 f1 f2 f3 f4)))

/-- The proof data: the arrays as the region finds them, the inputs' buffers left at their blocks, the results' at `O6` and `O7`. -/
def dats (O6 : Dev nD → Fin cfg0.N → Vec F S1x128x128 .bf16) (O7 : Dev nD → Fin cfg0.N → Vec F S1x1x2x128 .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => O6 c t
    | ⟨7, _⟩ => O7 c t
  Φ _ := Pipeline.ΦA spec0 c
  q _ := fullShare
  owed _ := 0

/-- A whole buffer held at its view's elements, at anything, is the buffer held whole. -/
theorem whole_pts {sp : Space} {sh : Shape} {d : EltTy} (c : Dev nD) (mr : Memref sig .tc sp sh d) (h : mr.IsWhole) :
    (iprop(∃ f, mr.view.loc c ↦[mr.view.set]{fullShare} f) : sProp 𝕄G) = (iprop(∃ f, mr.view.loc c ↦{fullShare} f) : sProp 𝕄G) := by
  rw [h.set_eq_univ]

/-- The scratch buffers, at anything. -/
abbrev Scr (c : Dev nD) : sProp 𝕄G :=
  iprop((∃ f, (Memref.whole cc0_scratch0).view.loc c ↦[(Memref.whole cc0_scratch0).view.set]{fullShare} f) ∗ (∃ f, (Memref.whole cc0_scratch1).view.loc c ↦[(Memref.whole cc0_scratch1).view.set]{fullShare} f) ∗ (∃ f, (Memref.whole cc0_scratch2).view.loc c ↦[(Memref.whole cc0_scratch2).view.set]{fullShare} f) ∗ (∃ f, (Memref.whole cc0_scratch3).view.loc c ↦[(Memref.whole cc0_scratch3).view.set]{fullShare} f) ∗ (∃ f, (Memref.whole cc0_scratch4).view.loc c ↦[(Memref.whole cc0_scratch4).view.set]{fullShare} f))

theorem scr_eq (c : Dev nD) : (Pipeline.ΦA spec0 c : sProp 𝕄G) = iprop(Scr c ∗ ∃ r, prngReg c r) := by
  unfold Pipeline.ΦA Scr
  rw [scopedRest0_eq]
  rw [whole_pts (F := F) c (Memref.whole cc0_scratch0) (Memref.isWhole_whole cc0_scratch0), whole_pts (F := F) c (Memref.whole cc0_scratch1) (Memref.isWhole_whole cc0_scratch1), whole_pts (F := F) c (Memref.whole cc0_scratch2) (Memref.isWhole_whole cc0_scratch2), whole_pts (F := F) c (Memref.whole cc0_scratch3) (Memref.isWhole_whole cc0_scratch3), whole_pts (F := F) c (Memref.whole cc0_scratch4) (Memref.isWhole_whole cc0_scratch4)]

/-- The body at grid point `t`, on buffers holding the inputs' blocks: it leaves the inputs, and in the results what `R6` and `R7`
    hold of. -/
theorem sound (R6 : Dev nD → Fin cfg0.N → Vec F S1x128x128 .bf16 → Prop) (R7 : Dev nD → Fin cfg0.N → Vec F S1x1x2x128 .f32 → Prop) (hR : Leaves m R6 R7) (c : Dev nD) (t : Fin cfg0.N) (P : sProp 𝕄G) :
    (iprop(Scr c ∗ P ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t)
        ∗ (∃ d, owns (c : Thread nD τ) (st0_6 t) fullShare d) ∗ (∃ d, owns (c : Thread nD τ) (st0_7 t) fullShare d)) : sProp 𝕄G)
      ⊢ wp frame (wpE (defs₀ (F := F)) Variants.none (c : Thread nD τ) none) Set.univ (bodyAt0 t) (fun _ =>
        iprop(Scr c ∗ P ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t)
          ∗ (∃ d, owns (c : Thread nD τ) (st0_6 t) fullShare d ∗ ⌜R6 c t d⌝) ∗ (∃ d, owns (c : Thread nD τ) (st0_7 t) fullShare d ∗ ⌜R7 c t d⌝))) := by
  have hrun := fun X0 X1 X2 X3 X4 X5 => (runAt (F := F) c t X0 X1 X2 X3 X4 X5).2.2 Set.univ
  have hL_1 := hR c t
  generalize runAt (F := F) c t = r at hrun hL_1
  unfold Scr owns
  iintro ⟨⟨⟨%f0, HS0⟩, ⟨%f1, HS1⟩, ⟨%f2, HS2⟩, ⟨%f3, HS3⟩, ⟨%f4, HS4⟩⟩, HP, ⟨%X0, %h0, H0⟩, ⟨%X1, %h1, H1⟩, ⟨%X2, %h2, H2⟩, ⟨%X3, %h3, H3⟩, ⟨%X4, %h4, H4⟩, ⟨%X5, %h5, H5⟩, ⟨%d6, %f6, %h6, H6⟩, ⟨%d7, %f7, %h7, H7⟩⟩
  have hL := hL_1 X0 X1 X2 X3 X4 X5 f6 f7 f0 f1 f2 f3 f4 h0 h1 h2 h3 h4 h5
  clear hL_1
  have hr := hrun X0 X1 X2 X3 X4 X5 f6 f7 f0 f1 f2 f3 f4
  clear hrun
  ihave Hw := hr $$ [H0 H1 H2 H3 H4 H5 H6 H7 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iexact HS4
  unfold bodyAt0
  iapply (wp_wand_r Idealize.ShloMosaic.frame (wpE (defs₀ (F := F)) Variants.none (c : Thread nD τ) none) Set.univ)
  isplitl [Hw]; · iexact Hw
  · iintro %_ ⟨H0, H1, H2, H3, H4, H5, H6, H7, ⟨%g0, HS0⟩, ⟨%g1, HS1⟩, ⟨%g2, HS2⟩, ⟨%g3, HS3⟩, ⟨%g4, HS4⟩⟩
    isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    isplitl [HP]; · iexact HP
    isplitl [H0]
    · iexists _; isplitr; · ipureintro; exact h0
      iexact H0
    isplitl [H1]
    · iexists _; isplitr; · ipureintro; exact h1
      iexact H1
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists ((st0_6 t).view.read (Elt F) ((st0_6 t).view.writes (Elt F) f6 ((r X0 X1 X2 X3 X4 X5).1 f0 f1 f2 f3 f4)))
      isplitl [H6]
      · iexists ((st0_6 t).view.writes (Elt F) f6 ((r X0 X1 X2 X3 X4 X5).1 f0 f1 f2 f3 f4))
        isplitr; · ipureintro; rfl
        iexact H6
      ipureintro; exact hL.1
    iexists ((st0_7 t).view.read (Elt F) ((st0_7 t).view.writes (Elt F) f7 ((r X0 X1 X2 X3 X4 X5).2.1 f0 f1 f2 f3 f4)))
    isplitl [H7]
    · iexists ((st0_7 t).view.writes (Elt F) f7 ((r X0 X1 X2 X3 X4 X5).2.1 f0 f1 f2 f3 f4))
      isplitr; · ipureintro; rfl
      iexact H7
    ipureintro; exact hL.2

end Cert.Proof.KernelIdeal

end
-- ==== Proof.Whole.lean ====
/- The run of the program: every buffer but the results' arrays is left as it was. -/
module

public import proofs.«01_k».proof.Proof.Run

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F] [Named F]

variable (m : (ℓ : Loc nD τ sig) → Buf (Elt F) ℓ) (ρ : Dev nD → PrngReg)

local notation "𝕄G" => MT nD τ sig Unit (Elt F) ℕ (UR sig nD τ) ℕ

/-- The two results' windows. -/
def fgt (w : Fin cfg0.W) : Bool := decide (6 ≤ w.val)

/-- Any contents, for the results whose value is not stated. -/
abbrev dats₀ := dats m (fun _ _ => constant S1x128x128 .bf16 0x0000#16) (fun _ _ => constant S1x1x2x128 .f32 0x00000000#32)

theorem defs₀_row (t : Fin cfg0.N) : defs₀ (F := F) .tc cfg0.body (cfg0.bodyArgs t (cfg0.slots t)) = bodyAt0 t := by
  unfold defs₀
  rw [Defs.onTc_tc]

theorem leaves_any : Leaves m (fun _ _ _ => True) (fun _ _ _ => True) := fun _ _ => by
  intros
  exact ⟨trivial, trivial⟩

theorem before_0 (O6 O7) (c : Dev nD) (t : Fin cfg0.N) (d) : (dats m O6 O7 0 c).before 0 t d = iblk m c 0 t :=
  before0_0_of m (dats m O6 O7 0 c) rfl (fun _ => rfl) t d

theorem before_1 (O6 O7) (c : Dev nD) (t : Fin cfg0.N) (d) : (dats m O6 O7 0 c).before 1 t d = iblk m c 1 t :=
  before0_1_of m (dats m O6 O7 0 c) rfl (fun _ => rfl) t d

theorem before_2 (O6 O7) (c : Dev nD) (t : Fin cfg0.N) (d) : (dats m O6 O7 0 c).before 2 t d = iblk m c 2 t :=
  before0_2_of m (dats m O6 O7 0 c) rfl (fun _ => rfl) t d

theorem before_3 (O6 O7) (c : Dev nD) (t : Fin cfg0.N) (d) : (dats m O6 O7 0 c).before 3 t d = iblk m c 3 t :=
  before0_3_of m (dats m O6 O7 0 c) rfl (fun _ => rfl) t d

theorem before_4 (O6 O7) (c : Dev nD) (t : Fin cfg0.N) (d) : (dats m O6 O7 0 c).before 4 t d = iblk m c 4 t :=
  before0_4_of m (dats m O6 O7 0 c) rfl (fun _ => rfl) t d

theorem before_5 (O6 O7) (c : Dev nD) (t : Fin cfg0.N) (d) : (dats m O6 O7 0 c).before 5 t d = iblk m c 5 t :=
  before0_5_of m (dats m O6 O7 0 c) rfl (fun _ => rfl) t d

set_option backward.isDefEq.respectTransparency.types false in
/-- The body's obligation with the results' contents left unsaid. -/
theorem body_forget (c : Dev nD) : BodyObligationLoose ((dats₀ m 0 c)) (defs₀ (F := F)) Variants.none () Set.univ fgt := fun t => by
  rw [bigSep_W0, bigSep_W0, defs₀_row]
  show iprop(Pipeline.ΦA spec0 c ∗ (dats₀ m 0 c).owesAt () t.castSucc ∗ (∃ d, owns (c : Thread nD τ) (st0_0 t) fullShare ((dats₀ m 0 c).before 0 t d)) ∗ (∃ d, owns (c : Thread nD τ) (st0_1 t) fullShare ((dats₀ m 0 c).before 1 t d)) ∗ (∃ d, owns (c : Thread nD τ) (st0_2 t) fullShare ((dats₀ m 0 c).before 2 t d)) ∗ (∃ d, owns (c : Thread nD τ) (st0_3 t) fullShare ((dats₀ m 0 c).before 3 t d)) ∗ (∃ d, owns (c : Thread nD τ) (st0_4 t) fullShare ((dats₀ m 0 c).before 4 t d)) ∗ (∃ d, owns (c : Thread nD τ) (st0_5 t) fullShare ((dats₀ m 0 c).before 5 t d)) ∗ (∃ d, owns (c : Thread nD τ) (st0_6 t) fullShare d) ∗ (∃ d, owns (c : Thread nD τ) (st0_7 t) fullShare d)) ⊢ wp Idealize.ShloMosaic.frame (wpE (defs₀ (F := F)) Variants.none (c : Thread nD τ) none) Set.univ (bodyAt0 t) (fun _ =>
    iprop(Pipeline.ΦA spec0 c ∗ (dats₀ m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d) ∗ (∃ d, owns (c : Thread nD τ) (st0_7 t) fullShare d)))
  simp only [scr_eq, before_0, before_1, before_2, before_3, before_4, before_5]
  generalize (dats₀ m 0 c).owesAt () t.castSucc = W
  iintro ⟨⟨HS, Hg⟩, HW, ⟨%_, H0⟩, ⟨%_, H1⟩, ⟨%_, H2⟩, ⟨%_, H3⟩, ⟨%_, H4⟩, ⟨%_, H5⟩, ⟨%d6, H6⟩, ⟨%d7, H7⟩⟩
  iapply (wp_wand_r Idealize.ShloMosaic.frame (wpE (defs₀ (F := F)) Variants.none (c : Thread nD τ) none) Set.univ)
  isplitl [HS Hg HW H0 H1 H2 H3 H4 H5 H6 H7]
  · iapply (sound m (fun _ _ _ => True) (fun _ _ _ => True) (leaves_any m) c t (iprop((∃ r, prngReg c r) ∗ W)))
    isplitl [HS]; · iexact HS
    isplitl [Hg HW]; · (isplitl [Hg]; · iexact Hg); iexact HW
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · iintro %_ ⟨HS, ⟨Hg, HW⟩, H0, H1, H2, H3, H4, H5, ⟨%e6, H6, %h6⟩, ⟨%e7, H7, %h7⟩⟩
    isplitl [HS Hg]
    · isplitl [HS]; · iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

set_option backward.isDefEq.respectTransparency.types false in
theorem run_forget : θ_run defs (onTc (τ := τ) (main (F := F))) (s₀ m ρ) (fun r => Pipeline.RDat.FramePost cfg0 (fun c => (dats₀ m 0 c).toRForget fgt) (V m) r ∧ r.2.sem = fun _ => 0) :=
  Pipeline.θ_run_frame_forget (Q' := _) cfgs (dats₀ m) (0 : Fin 1) launch0 defs₀ Variants.none fgt m ρ main
    (hbody := body_forget m) (hshare := fun c => (dats₀ m 0 c).share_full fun _ => rfl)
    (howed := fun _ _ => rfl) (V := V m) (hmain := hmain m Variants.none) (hA := fun _ _ => rfl) (hΦ := fun _ _ => rfl)

/-- The run ends, leaves the arguments' arrays as it found them and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 0 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_forget m ρ)

end Cert.Proof.KernelIdeal

end
-- ==== Proof.BitsOffsets.lean ====
/- The grid point's loop counts and the offsets of the loops' loads and stores, in closed form. -/
module

public import proofs.«01_k».proof.Defs
public import proofs.«01_k».proof.Proof.Gen.Kernel.Frame
public import proofs.«01_k».proof.Proof.Gen.Kernel.Loops
public import Idealize.ShloMosaic.Lib.Exec
public import Idealize.ShloMosaic.Lib.Tactic

@[expose] public section

noncomputable section

namespace Cert.Proof.Kernel

open Cert.Kernel
open Idealize.ShloMosaic Idealize.ShloMosaic.Tactic

/-- The grid's point of query tile `n`, every other coordinate zero: what the loops and offsets read of a point is its tile. -/
def tile (n : Fin 256) : grid0.Coords := fun a =>
  if h : a = 2 then ⟨n.val, by subst h; exact n.isLt⟩ else ⟨0, by revert a; decide⟩

/-- The scores loop goes over the whole chunks of 1024 keys before the query tile's own. -/
theorem trips1 (i : grid0.Coords) : (k0_t1_loop i).trips = (i 2).val / 8 := by
  have h : ∀ n : Fin 256, (k0_t1_loop (tile n)).trips = n.val / 8 := by decide +kernel
  exact h (i 2)

/-- The scores loop's remainder is empty. -/
theorem trips2 (i : grid0.Coords) : (k0_t2_loop i).trips = 0 := by
  have h : ∀ n : Fin 256, (k0_t2_loop (tile n)).trips = 0 := by decide +kernel
  exact h (i 2)

/-- The values loop goes over the whole chunks and the query tile's own. -/
theorem trips3 (i : grid0.Coords) : (k0_t3_loop i).trips = (i 2).val / 8 + 1 := by
  have h : ∀ n : Fin 256, (k0_t3_loop (tile n)).trips = n.val / 8 + 1 := by decide +kernel
  exact h (i 2)

/-- The values loop's remainder is empty. -/
theorem trips4 (i : grid0.Coords) : (k0_t4_loop i).trips = 0 := by
  have h : ∀ n : Fin 256, (k0_t4_loop (tile n)).trips = 0 := by decide +kernel
  exact h (i 2)

/-- The word a trip computes for its chunk's first row, moved by a literal. -/
theorem chunk_word (k n : Nat) (hk : k < 33) :
    ((Scf.iv 0#32 1#32 k : BitVec 32) * 1024#32 + BitVec.ofNat 32 n).toNat = (1024 * k + n) % 4294967296 := by
  simp only [Scf.iv, BitVec.toNat_add, BitVec.toNat_mul, BitVec.toNat_ofNat]
  omega

theorem lt1 (i : grid0.Coords) (k : Fin (k0_t1_loop i).trips) : k.val < 33 := by
  have h := lt_of_lt_of_eq k.isLt (trips1 i)
  have h2 : (i 2).val < 256 := (i 2).isLt
  omega

theorem lt3 (i : grid0.Coords) (k : Fin (k0_t3_loop i).trips) : k.val < 33 := by
  have h := lt_of_lt_of_eq k.isLt (trips3 i)
  have h2 : (i 2).val < 256 := (i 2).isLt
  omega

theorem off1_eq (i : grid0.Coords) (k : Fin (k0_t1_loop i).trips) : k0_off1 i k = ![0, 1024 * k.val, 0] := by
  have := lt1 i k
  have h := chunk_word k 0 this
  simp only [BitVec.ofNat_eq_ofNat, BitVec.add_zero] at h
  show ![0, ((Scf.iv 0#32 1#32 k.val : BitVec 32) * 1024#32).toNat, 0] = _
  rw [h]
  congr 2
  omega

theorem off2_eq (i : grid0.Coords) (k : Fin (k0_t1_loop i).trips) (n : Nat) :
    k0_off2 i k (BitVec.ofNat 32 n) = ![0, 0, (1024 * k.val + n) % 4294967296, 0] := by
  show ![0, 0, ((Scf.iv 0#32 1#32 k.val : BitVec 32) * 1024#32 + BitVec.ofNat 32 n).toNat, 0] = _
  rw [chunk_word k n (lt1 i k)]

theorem off3_eq (i : grid0.Coords) (k : Fin (k0_t1_loop i).trips) (n : Nat) :
    k0_off3 i k (BitVec.ofNat 32 n) = ![(1024 * k.val + n) % 4294967296, 0] := by
  show ![((Scf.iv 0#32 1#32 k.val : BitVec 32) * 1024#32 + BitVec.ofNat 32 n).toNat, 0] = _
  rw [chunk_word k n (lt1 i k)]

theorem off10_eq (i : grid0.Coords) (k : Fin (k0_t3_loop i).trips) (n : Nat) :
    k0_off10 i k (BitVec.ofNat 32 n) = ![(1024 * k.val + n) % 4294967296, 0] := by
  show ![((Scf.iv 0#32 1#32 k.val : BitVec 32) * 1024#32 + BitVec.ofNat 32 n).toNat, 0] = _
  rw [chunk_word k n (lt3 i k)]

theorem off11_eq (i : grid0.Coords) (k : Fin (k0_t3_loop i).trips) : k0_off11 i k = ![0, 0, 1024 * k.val] := by
  have := lt3 i k
  have h := chunk_word k 0 this
  simp only [BitVec.ofNat_eq_ofNat, BitVec.add_zero] at h
  show ![0, 0, ((Scf.iv 0#32 1#32 k.val : BitVec 32) * 1024#32).toNat] = _
  rw [h]
  congr 2
  simp only [Matrix.vecCons_inj, and_true, true_and]
  omega

/-- The query tile's own chunk starts at key `1024 · ⌊tile / 8⌋`. -/
theorem off7_eq (i : grid0.Coords) : k0_off7 i = ![0, 1024 * ((i 2).val / 8), 0] := by
  have h : ∀ n : Fin 256, k0_off7 (tile n) = ![0, 1024 * (n.val / 8), 0] := by decide +kernel
  exact h (i 2)

theorem off9_eq (i : grid0.Coords) (n : Nat) :
    k0_off9 i (BitVec.ofNat 32 n) = ![(1024 * ((i 2).val / 8) + n) % 4294967296, 0] := by
  have h : k0_off9 i (BitVec.ofNat 32 n) = ![(BitVec.ofNat 32 (k0_off7 i 1) + BitVec.ofNat 32 n).toNat, 0] := by
    show ![(_ + BitVec.ofNat 32 n).toNat, 0] = ![(BitVec.ofNat 32 (BitVec.toNat _) + BitVec.ofNat 32 n).toNat, 0]
    rw [BitVec.ofNat_toNat, BitVec.setWidth_eq]
    rfl
  rw [h, off7_eq, ← BitVec.ofNat_add, BitVec.toNat_ofNat]
  rfl

theorem off8_eq (i : grid0.Coords) (n : Nat) :
    k0_off8 i (BitVec.ofNat 32 n) = ![0, 0, (1024 * ((i 2).val / 8) + n) % 4294967296, 0] := by
  have h : k0_off8 i (BitVec.ofNat 32 n) = ![0, 0, k0_off9 i (BitVec.ofNat 32 n) 0, 0] := rfl
  rw [h, off9_eq]
  rfl

instance (i : grid0.Coords) (k : Fin (k0_t1_loop i).trips) : ClosedOff (k0_off1 i k) := ⟨_, off1_eq i k⟩
instance (i : grid0.Coords) (k : Fin (k0_t1_loop i).trips) (n : Nat) : ClosedOff (k0_off2 i k (BitVec.ofNat 32 n)) := ⟨_, off2_eq i k n⟩
instance (i : grid0.Coords) (k : Fin (k0_t1_loop i).trips) (n : Nat) : ClosedOff (k0_off3 i k (BitVec.ofNat 32 n)) := ⟨_, off3_eq i k n⟩
instance (i : grid0.Coords) : ClosedOff (k0_off7 i) := ⟨_, off7_eq i⟩
instance (i : grid0.Coords) (n : Nat) : ClosedOff (k0_off8 i (BitVec.ofNat 32 n)) := ⟨_, off8_eq i n⟩
instance (i : grid0.Coords) (n : Nat) : ClosedOff (k0_off9 i (BitVec.ofNat 32 n)) := ⟨_, off9_eq i n⟩
instance (i : grid0.Coords) (k : Fin (k0_t3_loop i).trips) (n : Nat) : ClosedOff (k0_off10 i k (BitVec.ofNat 32 n)) := ⟨_, off10_eq i k n⟩
instance (i : grid0.Coords) (k : Fin (k0_t3_loop i).trips) : ClosedOff (k0_off11 i k) := ⟨_, off11_eq i k⟩

end Cert.Proof.Kernel

end
-- ==== Proof.BitsScores.lean ====
/- The loop over the whole chunks of keys, gone through once at a symbolic trip: one trip's stores, the stores of the trips
   before the `k`th, and the loop's invariant. -/
module

public import proofs.«01_k».proof.Proof.BitsOffsets
public import Idealize.ShloMosaic.Lib.LoopRemainder

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip holds: the keys (arg4) and their scales (arg5) at their contents, the scores (arg12) and the running maxima
   (arg15) at any. -/
abbrev Trip1 (c : Dev nD) (arg4 : Memref sig .tc .vmem S1x32768x128 .fp8e4m3) (arg5 : Memref sig .tc .vmem S1x1x32768x128 .f32) (arg12 : Memref sig .tc .vmem S32768x256 .f32) (arg15 : Memref sig .tc .vmem S8x256 .f32)
    (X4 : BufTy.Contents (Elt F) arg4.view.ty) (X5 : BufTy.Contents (Elt F) arg5.view.ty) (f12 : BufTy.Contents (Elt F) arg12.view.ty) (f15 : BufTy.Contents (Elt F) arg15.view.ty) : sProp 𝕄G :=
  iprop((arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} f12) ∗ (arg15.view.loc (c : Thread nD τ) ↦[arg15.view.set]{fullShare} f15))

/-- One trip at a symbolic `k`: the pieces it stores into the scores and into the running maxima, as functions of the maxima it
   finds. -/
@[irreducible] def trip1 (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32)
    (X4 : BufTy.Contents (Elt F) arg4.view.ty) (X5 : BufTy.Contents (Elt F) arg5.view.ty) (k : Fin (k0_t1_loop i).trips) :
    Σ' (L12 : BufTy.Contents (Elt F) arg15.view.ty → List (View.Piece (Elt F) S32768x256 .f32)), { L15 : BufTy.Contents (Elt F) arg15.view.ty → List (View.Piece (Elt F) S8x256 .f32) // ∀ (E : Set ℕ) (f12 : BufTy.Contents (Elt F) arg12.view.ty) (f15 : BufTy.Contents (Elt F) arg15.view.ty),
      Trip1 (F := F) c arg4 arg5 arg12 arg15 X4 X5 f12 f15
      ⊢ wp frame (wpE (defs₀ (F := F)) 𝒱 (c : Thread nD τ) bd) E (k0_t1_body (F := F) i arg4 harg4 arg5 harg5 arg6 harg6 arg7 harg7 arg8 harg8 arg9 harg9 arg10 harg10 arg11 harg11 arg12 harg12 arg13 harg13 arg14 harg14 arg15 harg15 arg16 harg16 v17 v30 v32 k PUnit.unit)
          (fun _ => Trip1 (F := F) c arg4 arg5 arg12 arg15 X4 X5 (arg12.view.writes (Elt F) f12 (L12 f15)) (arg15.view.writes (Elt F) f15 (L15 f15))) } := by
  refine ⟨?_, ?_, fun E f12 f15 => ?run⟩
  case run =>
    unfold k0_t1_body
    iintro ⟨H4, H5, H12, H15⟩
    sl_exec
    sl_step
    sl_close

/-- The pieces the trips before `k` stored into the scores and into the running maxima (last first), each trip's taken at what
    the trips before it left over the contents at the loop's entry. -/
def st1 (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32) (X4 : BufTy.Contents (Elt F) arg4.view.ty) (X5 : BufTy.Contents (Elt F) arg5.view.ty) (G15 : BufTy.Contents (Elt F) arg15.view.ty) : ℕ → List (View.Piece (Elt F) S32768x256 .f32) × List (View.Piece (Elt F) S8x256 .f32)
  | 0 => ([], [])
  | k + 1 =>
    let s := st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k
    if h : k < (k0_t1_loop i).trips then
      ((trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 ⟨k, h⟩).1 (arg15.view.writes (Elt F) G15 s.2) ++ s.1, (trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 ⟨k, h⟩).2.1 (arg15.view.writes (Elt F) G15 s.2) ++ s.2)
    else s

theorem st1_succ (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32) (X4 : BufTy.Contents (Elt F) arg4.view.ty) (X5 : BufTy.Contents (Elt F) arg5.view.ty) (G15 : BufTy.Contents (Elt F) arg15.view.ty) (k : Fin (k0_t1_loop i).trips) :
    st1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 (k.val + 1)
      = ((trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 k).1 (arg15.view.writes (Elt F) G15 (st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k.val).2) ++ (st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k.val).1,
         (trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 k).2.1 (arg15.view.writes (Elt F) G15 (st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k.val).2) ++ (st1 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k.val).2) := by
  rw [st1]; exact dif_pos k.isLt

/-- The invariant before trip `k`: keys and scales as at the entry, scores and running maxima with the pieces `st1` stored over
    the contents at the entry. -/
abbrev inv1 (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32) (X4 : BufTy.Contents (Elt F) arg4.view.ty) (X5 : BufTy.Contents (Elt F) arg5.view.ty) (G12 : BufTy.Contents (Elt F) arg12.view.ty) (G15 : BufTy.Contents (Elt F) arg15.view.ty) (k : ℕ) (_u : PUnit) : sProp 𝕄G :=
  iprop((arg4.view.loc (c : Thread nD τ) ↦[arg4.view.set]{fullShare} X4) ∗ (arg5.view.loc (c : Thread nD τ) ↦[arg5.view.set]{fullShare} X5)
    ∗ (∃ f, (arg12.view.loc (c : Thread nD τ) ↦[arg12.view.set]{fullShare} f) ∗ ⌜f = arg12.view.writes (Elt F) G12 (st1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k).1⌝)
    ∗ (∃ f, (arg15.view.loc (c : Thread nD τ) ↦[arg15.view.set]{fullShare} f) ∗ ⌜f = arg15.view.writes (Elt F) G15 (st1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G15 k).2⌝))

set_option warn.classDefReducibility false in
/-- The loop by its invariant. -/
@[sl_loop] def loopInv_k0_t1 (𝒱 : Variants) (c : Dev nD) (bd : Option 𝒱.V) (E : Set ℕ) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32) (X4 : BufTy.Contents (Elt F) arg4.view.ty) (X5 : BufTy.Contents (Elt F) arg5.view.ty) (G12 : BufTy.Contents (Elt F) arg12.view.ty) (G15 : BufTy.Contents (Elt F) arg15.view.ty) :
    LoopInvTy_k0_t1 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 v17 v30 v32 where
  inv := inv1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 G12 G15
  step k acc := by
    iintro ⟨H4, H5, ⟨%f12, H12, %h12⟩, ⟨%f15, H15, %h15⟩⟩
    iapply (wp_wand_r Idealize.ShloMosaic.frame (wpE (defs₀ (F := F)) 𝒱 (c : Thread nD τ) bd) E)
    isplitl [H4 H5 H12 H15]
    · iapply ((trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 k).2.2 E f12 f15)
      isplitl [H4]; · iexact H4
      isplitl [H5]; · iexact H5
      isplitl [H12]; · iexact H12
      iexact H15
    · iintro %_ ⟨H4, H5, H12, H15⟩
      isplitl [H4]; · iexact H4
      isplitl [H5]; · iexact H5
      rw [st1_succ]
      isplitl [H12]
      · iexists _; isplitl [H12]; · iexact H12
        ipureintro; rw [h12, h15, ← View.writes_append]
      iexists _; isplitl [H15]; · iexact H15
      ipureintro; rw [h15, ← View.writes_append]

set_option warn.classDefReducibility false in
/-- The values loop by its generated invariant, at the two values its region reads: the query scales' products and the maxima. -/
@[sl_loop] def loopInv_k0_t3 (𝒱 : Variants) (c : Dev nD) (bd : Option 𝒱.V) (E : Set ℕ) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v39 : FVec F S1x256 .f32) (v675 : Vec F S8x256 .f32) (X6 : BufTy.Contents (Elt F) arg6.view.ty) (X12 : BufTy.Contents (Elt F) arg12.view.ty) (G13 : BufTy.Contents (Elt F) arg13.view.ty) (G14 : BufTy.Contents (Elt F) arg14.view.ty) (G16 : BufTy.Contents (Elt F) arg16.view.ty) :=
  Gen.loopInv_k0_t3 (F := F) 𝒱 c bd E i arg4 harg4 arg5 harg5 arg6 harg6 arg7 harg7 arg8 harg8 arg9 harg9 arg10 harg10 arg11 harg11 arg12 harg12 arg13 harg13 arg14 harg14 arg15 harg15 arg16 harg16 0#32 v39 v675 (constant S64x256 .f32 0x00000000#32) v675 v675 X6 X12 G13 G14 G16

end Cert.Proof.Kernel

end
-- ==== Proof.BitsBody.lean ====
/- The kernel's body at one grid point, run once over symbolic buffers: the pieces it stores into its two results, as functions
   of the inputs' blocks and of what the scratch buffers hold when it starts. -/
module

public import proofs.«01_k».proof.Proof.BitsScores
public import Idealize.ShloMosaic.Lib.LoopRemainder

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body at one point: on the six inputs at their blocks, the two results and the five scratch buffers at anything, it ends
    with the inputs as they were, the results written with the pieces the run finds and the scratch at some contents. -/
@[irreducible] def kernelRun (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) :
    Σ' (L10 : BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x128x128 .bf16)), { L11 : BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x1x2x128 .f32) // ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄G)
      ⊢ wp frame (wpE (defs₀ (F := F)) 𝒱 (c : Thread nD τ) bd) E (cc0_attention (F := F) i arg4 harg4 arg5 harg5 arg6 harg6 arg7 harg7 arg8 harg8 arg9 harg9 arg10 harg10 arg11 harg11 arg12 harg12 arg13 harg13 arg14 harg14 arg15 harg15 arg16 harg16)
          (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
            ∗ (arg10.view.loc (c : Thread nD τ) ↦[arg10.view.set]{fullShare} arg10.view.writes (Elt F) f10 (L10 f12 f13 f14 f15 f16)) ∗ (arg11.view.loc (c : Thread nD τ) ↦[arg11.view.set]{fullShare} arg11.view.writes (Elt F) f11 (L11 f12 f13 f14 f15 f16))
            ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))) } := by
  refine ⟨?_, ?_, fun E f10 f11 f12 f13 f14 f15 f16 => ?run⟩
  case run =>
    rw [cc0_attention_eq_skeleton]
    unfold cc0_attention_skel
    iintro ⟨H4, H5, H6, H7, H8, H9, H10, H11, H12, H13, H14, H15, H16⟩
    sl_exec
    sl_step
    sl_close

end Cert.Proof.Kernel

end
-- ==== Proof.BitsRun.lean ====
/- The pipeline's proof data over the body's run, and the run of the program: with what the results hold left unsaid (the
   frame), and with what they hold a given function of the grid point. -/
module

public import proofs.«01_k».proof.Proof.BitsBody

@[expose] public section

set_option maxRecDepth 8192
set_option maxHeartbeats 400000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

local notation "𝕄G" => MT nD τ sig Unit (Elt F) ℕ (UR sig nD τ) ℕ

/-- The body's run at grid point `t`, on the staging buffers the point is called with. -/
abbrev runAt (c : Dev nD) (t : Fin cfg0.N) (X0 : BufTy.Contents (Elt F) (st0_0 t).view.ty) (X1 : BufTy.Contents (Elt F) (st0_1 t).view.ty) (X2 : BufTy.Contents (Elt F) (st0_2 t).view.ty) (X3 : BufTy.Contents (Elt F) (st0_3 t).view.ty) (X4 : BufTy.Contents (Elt F) (st0_4 t).view.ty) (X5 : BufTy.Contents (Elt F) (st0_5 t).view.ty) :=
  kernelRun (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) X0 X1 X2 X3 X4 X5

/-- What the body leaves in its two results at grid point `t`, whatever the scratch and the results held before, satisfies
    `R6` and `R7`: the inputs' buffers at their blocks. -/
def Leaves (R6 : Dev nD → Fin cfg0.N → Vec F S1x128x128 .bf16 → Prop) (R7 : Dev nD → Fin cfg0.N → Vec F S1x1x2x128 .f32 → Prop) : Prop :=
  ∀ (c : Dev nD) (t : Fin cfg0.N) (X0 : BufTy.Contents (Elt F) (st0_0 t).view.ty) (X1 : BufTy.Contents (Elt F) (st0_1 t).view.ty) (X2 : BufTy.Contents (Elt F) (st0_2 t).view.ty) (X3 : BufTy.Contents (Elt F) (st0_3 t).view.ty) (X4 : BufTy.Contents (Elt F) (st0_4 t).view.ty) (X5 : BufTy.Contents (Elt F) (st0_5 t).view.ty) (f6 : BufTy.Contents (Elt F) (st0_6 t).view.ty) (f7 : BufTy.Contents (Elt F) (st0_7 t).view.ty) (f0 : BufTy.Contents (Elt F) (Memref.whole cc0_scratch0).view.ty) (f1 : BufTy.Contents (Elt F) (Memref.whole cc0_scratch1).view.ty) (f2 : BufTy.Contents (Elt F) (Memref.whole cc0_scratch2).view.ty) (f3 : BufTy.Contents (Elt F) (Memref.whole cc0_scratch3).view.ty) (f4 : BufTy.Contents (Elt F) (Memref.whole cc0_scratch4).view.ty),
    (st0_0 t).view.read (Elt F) X0 = iblk m c 0 t → (st0_1 t).view.read (Elt F) X1 = iblk m c 1 t → (st0_2 t).view.read (Elt F) X2 = iblk m c 2 t → (st0_3 t).view.read (Elt F) X3 = iblk m c 3 t → (st0_4 t).view.read (Elt F) X4 = iblk m c 4 t → (st0_5 t).view.read (Elt F) X5 = iblk m c 5 t →
    R6 c t ((st0_6 t).view.read (Elt F) ((st0_6 t).view.writes (Elt F) f6 ((runAt c t X0 X1 X2 X3 X4 X5).1 f0 f1 f2 f3 f4)))
    ∧ R7 c t ((st0_7 t).view.read (Elt F) ((st0_7 t).view.writes (Elt F) f7 ((runAt c t X0 X1 X2 X3 X4 X5).2.1 f0 f1 f2 f3 f4)))

/-- The proof data: the arrays as the region finds them, the inputs' buffers left at their blocks, the results' at `O6` and `O7`. -/
def dats (O6 : Dev nD → Fin cfg0.N → Vec F S1x128x128 .bf16) (O7 : Dev nD → Fin cfg0.N → Vec F S1x1x2x128 .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => O6 c t
    | ⟨7, _⟩ => O7 c t
  Φ _ := Pipeline.ΦA spec0 c
  q _ := fullShare
  owed _ := 0

/-- A whole buffer held at its view's elements, at anything, is the buffer held whole. -/
theorem whole_pts {sp : Space} {sh : Shape} {d : EltTy} (c : Dev nD) (mr : Memref sig .tc sp sh d) (h : mr.IsWhole) :
    (iprop(∃ f, mr.view.loc c ↦[mr.view.set]{fullShare} f) : sProp 𝕄G) = (iprop(∃ f, mr.view.loc c ↦{fullShare} f) : sProp 𝕄G) := by
  rw [h.set_eq_univ]

/-- The scratch buffers, at anything. -/
abbrev Scr (c : Dev nD) : sProp 𝕄G :=
  iprop((∃ f, (Memref.whole cc0_scratch0).view.loc c ↦[(Memref.whole cc0_scratch0).view.set]{fullShare} f) ∗ (∃ f, (Memref.whole cc0_scratch1).view.loc c ↦[(Memref.whole cc0_scratch1).view.set]{fullShare} f) ∗ (∃ f, (Memref.whole cc0_scratch2).view.loc c ↦[(Memref.whole cc0_scratch2).view.set]{fullShare} f) ∗ (∃ f, (Memref.whole cc0_scratch3).view.loc c ↦[(Memref.whole cc0_scratch3).view.set]{fullShare} f) ∗ (∃ f, (Memref.whole cc0_scratch4).view.loc c ↦[(Memref.whole cc0_scratch4).view.set]{fullShare} f))

theorem scr_eq (c : Dev nD) : (Pipeline.ΦA spec0 c : sProp 𝕄G) = iprop(Scr c ∗ ∃ r, prngReg c r) := by
  unfold Pipeline.ΦA Scr
  rw [scopedRest0_eq]
  rw [whole_pts (F := F) c (Memref.whole cc0_scratch0) (Memref.isWhole_whole cc0_scratch0), whole_pts (F := F) c (Memref.whole cc0_scratch1) (Memref.isWhole_whole cc0_scratch1), whole_pts (F := F) c (Memref.whole cc0_scratch2) (Memref.isWhole_whole cc0_scratch2), whole_pts (F := F) c (Memref.whole cc0_scratch3) (Memref.isWhole_whole cc0_scratch3), whole_pts (F := F) c (Memref.whole cc0_scratch4) (Memref.isWhole_whole cc0_scratch4)]

/-- The body at grid point `t`, on buffers holding the inputs' blocks: it leaves the inputs, and in the results what `R6` and `R7`
    hold of. -/
theorem sound (R6 : Dev nD → Fin cfg0.N → Vec F S1x128x128 .bf16 → Prop) (R7 : Dev nD → Fin cfg0.N → Vec F S1x1x2x128 .f32 → Prop) (hR : Leaves m R6 R7) (c : Dev nD) (t : Fin cfg0.N) (P : sProp 𝕄G) :
    (iprop(Scr c ∗ P ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t)
        ∗ (∃ d, owns (c : Thread nD τ) (st0_6 t) fullShare d) ∗ (∃ d, owns (c : Thread nD τ) (st0_7 t) fullShare d)) : sProp 𝕄G)
      ⊢ wp frame (wpE (defs₀ (F := F)) Variants.none (c : Thread nD τ) none) Set.univ (bodyAt0 t) (fun _ =>
        iprop(Scr c ∗ P ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t)
          ∗ (∃ d, owns (c : Thread nD τ) (st0_6 t) fullShare d ∗ ⌜R6 c t d⌝) ∗ (∃ d, owns (c : Thread nD τ) (st0_7 t) fullShare d ∗ ⌜R7 c t d⌝))) := by
  have hrun := fun X0 X1 X2 X3 X4 X5 => (runAt (F := F) c t X0 X1 X2 X3 X4 X5).2.2 Set.univ
  have hL_1 := hR c t
  generalize runAt (F := F) c t = r at hrun hL_1
  unfold Scr owns
  iintro ⟨⟨⟨%f0, HS0⟩, ⟨%f1, HS1⟩, ⟨%f2, HS2⟩, ⟨%f3, HS3⟩, ⟨%f4, HS4⟩⟩, HP, ⟨%X0, %h0, H0⟩, ⟨%X1, %h1, H1⟩, ⟨%X2, %h2, H2⟩, ⟨%X3, %h3, H3⟩, ⟨%X4, %h4, H4⟩, ⟨%X5, %h5, H5⟩, ⟨%d6, %f6, %h6, H6⟩, ⟨%d7, %f7, %h7, H7⟩⟩
  have hL := hL_1 X0 X1 X2 X3 X4 X5 f6 f7 f0 f1 f2 f3 f4 h0 h1 h2 h3 h4 h5
  clear hL_1
  have hr := hrun X0 X1 X2 X3 X4 X5 f6 f7 f0 f1 f2 f3 f4
  clear hrun
  ihave Hw := hr $$ [H0 H1 H2 H3 H4 H5 H6 H7 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iexact HS4
  unfold bodyAt0
  iapply (wp_wand_r Idealize.ShloMosaic.frame (wpE (defs₀ (F := F)) Variants.none (c : Thread nD τ) none) Set.univ)
  isplitl [Hw]; · iexact Hw
  · iintro %_ ⟨H0, H1, H2, H3, H4, H5, H6, H7, ⟨%g0, HS0⟩, ⟨%g1, HS1⟩, ⟨%g2, HS2⟩, ⟨%g3, HS3⟩, ⟨%g4, HS4⟩⟩
    isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    isplitl [HP]; · iexact HP
    isplitl [H0]
    · iexists _; isplitr; · ipureintro; exact h0
      iexact H0
    isplitl [H1]
    · iexists _; isplitr; · ipureintro; exact h1
      iexact H1
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists ((st0_6 t).view.read (Elt F) ((st0_6 t).view.writes (Elt F) f6 ((r X0 X1 X2 X3 X4 X5).1 f0 f1 f2 f3 f4)))
      isplitl [H6]
      · iexists ((st0_6 t).view.writes (Elt F) f6 ((r X0 X1 X2 X3 X4 X5).1 f0 f1 f2 f3 f4))
        isplitr; · ipureintro; rfl
        iexact H6
      ipureintro; exact hL.1
    iexists ((st0_7 t).view.read (Elt F) ((st0_7 t).view.writes (Elt F) f7 ((r X0 X1 X2 X3 X4 X5).2.1 f0 f1 f2 f3 f4)))
    isplitl [H7]
    · iexists ((st0_7 t).view.writes (Elt F) f7 ((r X0 X1 X2 X3 X4 X5).2.1 f0 f1 f2 f3 f4))
      isplitr; · ipureintro; rfl
      iexact H7
    ipureintro; exact hL.2

end Cert.Proof.Kernel

end
-- ==== Proof.BitsWhole.lean ====
/- The run of the program: every buffer but the results' arrays is left as it was. -/
module

public import proofs.«01_k».proof.Proof.BitsRun

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

local notation "𝕄G" => MT nD τ sig Unit (Elt F) ℕ (UR sig nD τ) ℕ

/-- The two results' windows. -/
def fgt (w : Fin cfg0.W) : Bool := decide (6 ≤ w.val)

/-- Any contents, for the results whose value is not stated. -/
abbrev dats₀ := dats m (fun _ _ => constant S1x128x128 .bf16 0x0000#16) (fun _ _ => constant S1x1x2x128 .f32 0x00000000#32)

theorem defs₀_row (t : Fin cfg0.N) : defs₀ (F := F) .tc cfg0.body (cfg0.bodyArgs t (cfg0.slots t)) = bodyAt0 t := by
  unfold defs₀
  rw [Defs.onTc_tc]

theorem leaves_any : Leaves m (fun _ _ _ => True) (fun _ _ _ => True) := fun _ _ => by
  intros
  exact ⟨trivial, trivial⟩

theorem before_0 (O6 O7) (c : Dev nD) (t : Fin cfg0.N) (d) : (dats m O6 O7 0 c).before 0 t d = iblk m c 0 t :=
  before0_0_of m (dats m O6 O7 0 c) rfl (fun _ => rfl) t d

theorem before_1 (O6 O7) (c : Dev nD) (t : Fin cfg0.N) (d) : (dats m O6 O7 0 c).before 1 t d = iblk m c 1 t :=
  before0_1_of m (dats m O6 O7 0 c) rfl (fun _ => rfl) t d

theorem before_2 (O6 O7) (c : Dev nD) (t : Fin cfg0.N) (d) : (dats m O6 O7 0 c).before 2 t d = iblk m c 2 t :=
  before0_2_of m (dats m O6 O7 0 c) rfl (fun _ => rfl) t d

theorem before_3 (O6 O7) (c : Dev nD) (t : Fin cfg0.N) (d) : (dats m O6 O7 0 c).before 3 t d = iblk m c 3 t :=
  before0_3_of m (dats m O6 O7 0 c) rfl (fun _ => rfl) t d

theorem before_4 (O6 O7) (c : Dev nD) (t : Fin cfg0.N) (d) : (dats m O6 O7 0 c).before 4 t d = iblk m c 4 t :=
  before0_4_of m (dats m O6 O7 0 c) rfl (fun _ => rfl) t d

theorem before_5 (O6 O7) (c : Dev nD) (t : Fin cfg0.N) (d) : (dats m O6 O7 0 c).before 5 t d = iblk m c 5 t :=
  before0_5_of m (dats m O6 O7 0 c) rfl (fun _ => rfl) t d

set_option backward.isDefEq.respectTransparency.types false in
/-- The body's obligation with the results' contents left unsaid. -/
theorem body_forget (c : Dev nD) : BodyObligationLoose ((dats₀ m 0 c)) (defs₀ (F := F)) Variants.none () Set.univ fgt := fun t => by
  rw [bigSep_W0, bigSep_W0, defs₀_row]
  show iprop(Pipeline.ΦA spec0 c ∗ (dats₀ m 0 c).owesAt () t.castSucc ∗ (∃ d, owns (c : Thread nD τ) (st0_0 t) fullShare ((dats₀ m 0 c).before 0 t d)) ∗ (∃ d, owns (c : Thread nD τ) (st0_1 t) fullShare ((dats₀ m 0 c).before 1 t d)) ∗ (∃ d, owns (c : Thread nD τ) (st0_2 t) fullShare ((dats₀ m 0 c).before 2 t d)) ∗ (∃ d, owns (c : Thread nD τ) (st0_3 t) fullShare ((dats₀ m 0 c).before 3 t d)) ∗ (∃ d, owns (c : Thread nD τ) (st0_4 t) fullShare ((dats₀ m 0 c).before 4 t d)) ∗ (∃ d, owns (c : Thread nD τ) (st0_5 t) fullShare ((dats₀ m 0 c).before 5 t d)) ∗ (∃ d, owns (c : Thread nD τ) (st0_6 t) fullShare d) ∗ (∃ d, owns (c : Thread nD τ) (st0_7 t) fullShare d)) ⊢ wp Idealize.ShloMosaic.frame (wpE (defs₀ (F := F)) Variants.none (c : Thread nD τ) none) Set.univ (bodyAt0 t) (fun _ =>
    iprop(Pipeline.ΦA spec0 c ∗ (dats₀ m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d) ∗ (∃ d, owns (c : Thread nD τ) (st0_7 t) fullShare d)))
  simp only [scr_eq, before_0, before_1, before_2, before_3, before_4, before_5]
  generalize (dats₀ m 0 c).owesAt () t.castSucc = W
  iintro ⟨⟨HS, Hg⟩, HW, ⟨%_, H0⟩, ⟨%_, H1⟩, ⟨%_, H2⟩, ⟨%_, H3⟩, ⟨%_, H4⟩, ⟨%_, H5⟩, ⟨%d6, H6⟩, ⟨%d7, H7⟩⟩
  iapply (wp_wand_r Idealize.ShloMosaic.frame (wpE (defs₀ (F := F)) Variants.none (c : Thread nD τ) none) Set.univ)
  isplitl [HS Hg HW H0 H1 H2 H3 H4 H5 H6 H7]
  · iapply (sound m (fun _ _ _ => True) (fun _ _ _ => True) (leaves_any m) c t (iprop((∃ r, prngReg c r) ∗ W)))
    isplitl [HS]; · iexact HS
    isplitl [Hg HW]; · (isplitl [Hg]; · iexact Hg); iexact HW
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · iintro %_ ⟨HS, ⟨Hg, HW⟩, H0, H1, H2, H3, H4, H5, ⟨%e6, H6, %h6⟩, ⟨%e7, H7, %h7⟩⟩
    isplitl [HS Hg]
    · isplitl [HS]; · iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

set_option backward.isDefEq.respectTransparency.types false in
theorem run_forget : θ_run defs (onTc (τ := τ) (main (F := F))) (s₀ m ρ) (fun r => Pipeline.RDat.FramePost cfg0 (fun c => (dats₀ m 0 c).toRForget fgt) (V m) r ∧ r.2.sem = fun _ => 0) :=
  Pipeline.θ_run_frame_forget (Q' := _) cfgs (dats₀ m) (0 : Fin 1) launch0 defs₀ Variants.none fgt m ρ main
    (hbody := body_forget m) (hshare := fun c => (dats₀ m 0 c).share_full fun _ => rfl)
    (howed := fun _ _ => rfl) (V := V m) (hmain := hmain m Variants.none) (hA := fun _ _ => rfl) (hΦ := fun _ _ => rfl)

/-- The run ends, leaves the arguments' arrays as it found them and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 0 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_forget m ρ)

end Cert.Proof.Kernel

end
-- ==== Proof.Tiles.lean ====
/- The stores of one chunk of keys written as a list over its sixteen tiles of 64 rows, and its running maxima and sums as a
   fold over them: the form in which the runs of the loops are read. -/
module

public import proofs.«01_k».proof.Proof.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F] [Named F]

/-- The sixteen tiles of a chunk, first to last. -/
def tiles : List (Fin 16) := [0, 1, 2, 3, 4, 5, 6, 7, 8, 9, 10, 11, 12, 13, 14, 15]

/-- The same, last to first: the order in which the pieces of a run are listed. -/
def tilesR : List (Fin 16) := [15, 14, 13, 12, 11, 10, 9, 8, 7, 6, 5, 4, 3, 2, 1, 0]

theorem mem_tiles (u : Fin 16) : u ∈ tiles := by revert u; decide
theorem mem_tilesR (u : Fin 16) : u ∈ tilesR := by revert u; decide

theorem slices_tile (u : Fin 16) : S1024x256.Slices ![64 * u.val, 0] S64x256 := by revert u; decide

/-- One tile of scores: 64 rows of the chunk's products times the keys' scales. -/
def tileS (raw : FVec F S1024x256 .f32) (ks : Vec F S1x1x64x128 .f32) (u : Fin 16) : FVec F S64x256 .f32 :=
  mulf (extractStridedSlice S64x256 ![64 * u.val, 0] raw (slices_tile u))
    (concatenate S64x256 1 [⟨S64x128, shapeCast S64x128 ks shapeCasts_S1x1x64x128_S64x128⟩, ⟨S64x128, shapeCast S64x128 ks shapeCasts_S1x1x64x128_S64x128⟩] concatenates_S64x128_S64x128_S64x256_d1)

/-- The running maxima after one tile: its eight groups of eight rows taken in turn. -/
def max8 (acc : FVec F S8x256 .f32) (T : FVec F S64x256 .f32) : FVec F S8x256 .f32 :=
  maximumf (maximumf (maximumf (maximumf (maximumf (maximumf (maximumf (maximumf acc (extractStridedSlice S8x256 ![0, 0] T slices_S64x256_o0_0_S8x256)) (extractStridedSlice S8x256 ![8, 0] T slices_S64x256_o8_0_S8x256)) (extractStridedSlice S8x256 ![16, 0] T slices_S64x256_o16_0_S8x256)) (extractStridedSlice S8x256 ![24, 0] T slices_S64x256_o24_0_S8x256)) (extractStridedSlice S8x256 ![32, 0] T slices_S64x256_o32_0_S8x256)) (extractStridedSlice S8x256 ![40, 0] T slices_S64x256_o40_0_S8x256)) (extractStridedSlice S8x256 ![48, 0] T slices_S64x256_o48_0_S8x256)) (extractStridedSlice S8x256 ![56, 0] T slices_S64x256_o56_0_S8x256)

/-- The running sums after one tile: its eight groups of eight rows taken in turn. -/
def sum8 (acc : FVec F S8x256 .f32) (T : FVec F S64x256 .f32) : FVec F S8x256 .f32 :=
  addf (addf (addf (addf (addf (addf (addf (addf acc (extractStridedSlice S8x256 ![0, 0] T slices_S64x256_o0_0_S8x256)) (extractStridedSlice S8x256 ![8, 0] T slices_S64x256_o8_0_S8x256)) (extractStridedSlice S8x256 ![16, 0] T slices_S64x256_o16_0_S8x256)) (extractStridedSlice S8x256 ![24, 0] T slices_S64x256_o24_0_S8x256)) (extractStridedSlice S8x256 ![32, 0] T slices_S64x256_o32_0_S8x256)) (extractStridedSlice S8x256 ![40, 0] T slices_S64x256_o40_0_S8x256)) (extractStridedSlice S8x256 ![48, 0] T slices_S64x256_o48_0_S8x256)) (extractStridedSlice S8x256 ![56, 0] T slices_S64x256_o56_0_S8x256)

/-- The products of one whole chunk: its keys times the queries. -/
def rawOf (v30 : FVec F S128x256 .fp8e4m3) (kx : Vec F S1x1024x128 .fp8e4m3) : FVec F S1024x256 .f32 :=
  matmul dot_S1024x128_S128x256_S1024x256_1_0_0_1_n_n none (shapeCast S1024x128 kx shapeCasts_S1x1024x128_S1024x128) v30 (constant S1024x256 .f32 0x00000000#32)

/-- The tile `u` of trip `k`. -/
def tile1 (i : grid0.Coords) (arg4 : Memref sig .tc .vmem S1x32768x128 .fp8e4m3) (arg5 : Memref sig .tc .vmem S1x1x32768x128 .f32)
    (v30 : FVec F S128x256 .fp8e4m3) (X4 : BufTy.Contents (Elt F) arg4.view.ty) (X5 : BufTy.Contents (Elt F) arg5.view.ty) (k : Fin (k0_t1_loop i).trips) (u : Fin 16) : FVec F S64x256 .f32 :=
  tileS (rawOf v30 (arg4.view.readAt (Elt F) (Rect.unit (s := S1x32768x128) (k0_off1 i k) S1x1024x128.size (k0_off1_inb i k)).toLoadRect X4))
    (arg5.view.readAt (Elt F) (Rect.unit (s := S1x1x32768x128) (k0_off2 i k (BitVec.ofNat 32 (64 * u.val))) S1x1x64x128.size (k0_off2_inb i k u)).toLoadRect X5) u

/-- One trip stores its sixteen tiles into the scores; -/
theorem trip1_scores (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32)
    (X4 : BufTy.Contents (Elt F) arg4.view.ty) (X5 : BufTy.Contents (Elt F) arg5.view.ty) (k : Fin (k0_t1_loop i).trips) (f15 : BufTy.Contents (Elt F) arg15.view.ty) :
    (trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 k).1 f15
      = tilesR.map fun u => ⟨Rect.unit (s := S32768x256) (k0_off3 i k (BitVec.ofNat 32 (64 * u.val))) S64x256.size (k0_off3_inb i k u),
          shapeCast S64x256 (tile1 i arg4 arg5 v30 X4 X5 k u) shapeCasts_S64x256_S64x256⟩ := by
  unfold trip1
  rfl

/-- and the maxima it leaves are the ones it found, taken on through the sixteen tiles. -/
theorem trip1_maxima (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec F S128x256 .fp8e4m3) (v32 : FVec F S1x128 .f32)
    (X4 : BufTy.Contents (Elt F) arg4.view.ty) (X5 : BufTy.Contents (Elt F) arg5.view.ty) (k : Fin (k0_t1_loop i).trips) (f15 : BufTy.Contents (Elt F) arg15.view.ty) :
    (trip1 (F := F) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 k).2.1 f15
      = [⟨Rect.unit ![0, 0] S8x256.size inb_S8x256_S8x256_0_0, shapeCast S8x256
          (tiles.foldl (fun acc u => max8 acc (tile1 i arg4 arg5 v30 X4 X5 k u)) (arg15.view.readAt (Elt F) (Rect.unit ![0, 0] S8x256.size inb_S8x256_S8x256_0_0).toLoadRect f15)) shapeCasts_S8x256_S8x256⟩] := by
  unfold trip1
  rfl

end Cert.Proof.KernelIdeal

end
-- ==== Proof.Masked.lean ====
/- The last, masked chunk of keys in the same form: its sixteen tiles stored after the whole chunks' and its maxima taken on
   from theirs; and the body's two results as functions of the scores, the maxima, the sums and the products that follow. -/
module

public import proofs.«01_k».proof.Proof.Tiles

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F] [Named F]

/-- The products of the masked chunk. -/
def rawM (i : grid0.Coords) (arg4 : Memref sig .tc .vmem S1x32768x128 .fp8e4m3) (v30 : FVec F S128x256 .fp8e4m3) (X4 : BufTy.Contents (Elt F) arg4.view.ty) : FVec F S1024x256 .f32 :=
  rawOf v30 (arg4.view.readAt (Elt F) (Rect.unit (s := S1x32768x128) (k0_off7 i) S1x1024x128.size (k0_off7_inb i)).toLoadRect X4)

/-- Tile `u` of the masked chunk: the scores of the keys that the query may see, minus infinity elsewhere. -/
def tileM (i : grid0.Coords) (arg4 : Memref sig .tc .vmem S1x32768x128 .fp8e4m3) (arg5 : Memref sig .tc .vmem S1x1x32768x128 .f32)
    (v30 : FVec F S128x256 .fp8e4m3) (X4 : BufTy.Contents (Elt F) arg4.view.ty) (X5 : BufTy.Contents (Elt F) arg5.view.ty) (u : Fin 16) : FVec F S64x256 .f32 :=
  select (cmpi .sle (addi (broadcast S64x256 (Scalar.addi (kernelRun.sl.v57 i) (BitVec.ofNat 32 (64 * u.val)))) (iota .tc S64x256 32 [0] iota_S64x256_d0_w32))
      (addi (broadcast S64x256 (kernelRun.sl.v0 i)) (andi (iota .tc S64x256 32 [1] iota_S64x256_d1_w32) (broadcast S64x256 127#32))))
    (tileS (rawM i arg4 v30 X4)
      (arg5.view.readAt (Elt F) (Rect.unit (s := S1x1x32768x128) (k0_off8 i (BitVec.ofNat 32 (64 * u.val))) S1x1x64x128.size (k0_off8_inb i u)).toLoadRect X5) u)
    (broadcast S64x256 (Scalar.ofBits .f32 0xFF800000#32))

/-- The pieces of the scores when the masked chunk is done: its tiles over those of the whole chunks. -/
def scoreL (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X7 : BufTy.Contents (Elt F) arg7.view.ty) (X8 : BufTy.Contents (Elt F) arg8.view.ty) : List (View.Piece (Elt F) S32768x256 .f32) :=
  (tilesR.map fun u => ⟨Rect.unit (s := S32768x256) (k0_off9 i (BitVec.ofNat 32 (64 * u.val))) S64x256.size (k0_off9_inb i u),
      shapeCast S64x256 (tileM i arg4 arg5 (kernelRun.sl.v30 i arg7 X7) X4 X5 u) shapeCasts_S64x256_S64x256⟩)
    ++ (st1 (F := F) 𝒱 c bd i arg4 harg4 arg5 harg5 arg6 harg6 arg7 harg7 arg8 harg8 arg9 harg9 arg10 harg10 arg11 harg11 arg12 harg12 arg13 harg13 arg14 harg14 arg15 harg15 arg16 harg16 (kernelRun.sl.v17 i) (kernelRun.sl.v30 i arg7 X7) (kernelRun.sl.v32 arg8 X8) X4 X5 (View.writes arg15.view (Elt F) (View.junk arg15.view) kernelRun.sl.H15_1) (k0_t1_loop i).trips).1

theorem scoreL_eq (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X7 : BufTy.Contents (Elt F) arg7.view.ty) (X8 : BufTy.Contents (Elt F) arg8.view.ty) :
    (⟨Rect.unit (s := S32768x256) (k0_off9 i 960#32) S64x256.size (k0_off9_inb i 15), kernelRun.sl.v655 (F := F) i arg4 arg5 arg7 X4 X5 X7⟩ :: kernelRun.sl.H12_15 (F := F) 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)
      = scoreL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 := by
  rfl

/-- The maxima, in eight rows, when the masked chunk is done. -/
def maxL (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X7 : BufTy.Contents (Elt F) arg7.view.ty) (X8 : BufTy.Contents (Elt F) arg8.view.ty) : FVec F S8x256 .f32 :=
  tiles.foldl (fun acc u => max8 acc (tileM i arg4 arg5 (kernelRun.sl.v30 i arg7 X7) X4 X5 u))
    (arg15.view.readCov ((st1 (F := F) 𝒱 c bd i arg4 harg4 arg5 harg5 arg6 harg6 arg7 harg7 arg8 harg8 arg9 harg9 arg10 harg10 arg11 harg11 arg12 harg12 arg13 harg13 arg14 harg14 arg15 harg15 arg16 harg16 (kernelRun.sl.v17 i) (kernelRun.sl.v30 i arg7 X7) (kernelRun.sl.v32 arg8 X8) X4 X5 (View.writes arg15.view (Elt F) (View.junk arg15.view) kernelRun.sl.H15_1) (k0_t1_loop i).trips).2 ++ kernelRun.sl.H15_1) (Rect.unit ![0, 0] S8x256.size inb_S8x256_S8x256_0_0).toLoadRect)

theorem maxL_eq (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X7 : BufTy.Contents (Elt F) arg7.view.ty) (X8 : BufTy.Contents (Elt F) arg8.view.ty) :
    kernelRun.sl.v675 (F := F) 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 = shapeCast S8x256 (maxL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) shapeCasts_S8x256_S8x256 := by
  unfold kernelRun.sl.v675 kernelRun.sl.H15_1_1
  rw [View.readCov_cons_toLoadRect]
  rfl

/-- What the second loop leaves over the cleared sums and products. -/
def pbL (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f12 : BufTy.Contents (Elt F) arg12.view.ty) (f13 : BufTy.Contents (Elt F) arg13.view.ty) :=
  pb_k0_t3 (F := F) 𝒱 c bd i arg4 harg4 arg5 harg5 arg6 harg6 arg7 harg7 arg8 harg8 arg9 harg9 arg10 harg10 arg11 harg11 arg12 harg12 arg13 harg13 arg14 harg14 arg15 harg15 arg16 harg16 0#32 (kernelRun.sl.r_1 arg8 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) (constant S64x256 .f32 0x00000000#32) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) X6
    (View.writes arg12.view (Elt F) f12 (scoreL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)) f13 (View.writes arg14.view (Elt F) (View.junk arg14.view) kernelRun.sl.H14_1) (View.writes arg16.view (Elt F) (View.junk arg16.view) kernelRun.sl.H16_1) (k0_t3_loop i).trips

/-- The sums over all keys, in eight rows, -/
def sumL (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f12 : BufTy.Contents (Elt F) arg12.view.ty) (f13 : BufTy.Contents (Elt F) arg13.view.ty) : FVec F S8x256 .f32 :=
  arg16.view.readCov ((pbL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13).2.2 ++ kernelRun.sl.H16_1) (Rect.unit ![0, 0] S8x256.size inb_S8x256_S8x256_0_0).toLoadRect

/-- and the products with the values. -/
def prodL (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f12 : BufTy.Contents (Elt F) arg12.view.ty) (f13 : BufTy.Contents (Elt F) arg13.view.ty) : FVec F S64x256 .f32 :=
  arg14.view.readCov ((pbL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13).2.1 ++ kernelRun.sl.H14_1) (Rect.unit ![0, 0] S64x256.size inb_S64x256_S64x256_0_0).toLoadRect

theorem v693_eq (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f12 : BufTy.Contents (Elt F) arg12.view.ty) (f13 : BufTy.Contents (Elt F) arg13.view.ty) :
    kernelRun.sl.v693 (F := F) 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13 = sumL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13 := by
  rfl

theorem v699_eq (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f12 : BufTy.Contents (Elt F) arg12.view.ty) (f13 : BufTy.Contents (Elt F) arg13.view.ty) :
    kernelRun.sl.v699 (F := F) 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13 = prodL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13 := by
  rfl

/-- The block of the attention that the body stores, -/
theorem kernelRun_out (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    (kernelRun (F := F) 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 X9).1 f12 f13 f14 f15 f16
      = [⟨Rect.unit ![0, 0, 0] S1x128x128.size inb_S1x128x128_S1x128x128_0_0_0, k0_pay265 (k0_pay264 (sumL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13)) (kernelRun.sl.r_4 arg9 X9) (prodL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13)⟩] := by
  unfold kernelRun
  rfl

/-- and the block of its statistics. -/
theorem kernelRun_stat (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    (kernelRun (F := F) 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 X9).2.1 f12 f13 f14 f15 f16
      = [⟨Rect.unit ![0, 0, 0, 0] S1x1x2x128.size inb_S1x1x2x128_S1x1x2x128_0_0_0_0, k0_pay1 (k0_pay266 (kernelRun.sl.v0 i) (kernelRun.sl.r arg8 X8) (k0_pay257 (shapeCast S8x256 (maxL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) shapeCasts_S8x256_S8x256)) (k0_pay264 (sumL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13)))⟩] := by
  rw [← maxL_eq]
  unfold kernelRun
  rfl

end Cert.Proof.KernelIdeal

end
-- ==== Proof.ValTrip.lean ====
/- One trip of the second loop in the same form: the weights of its chunk in sixteen tiles, their running sums, and the product
   with the chunk's values. -/
module

public import proofs.«01_k».proof.Proof.Tiles

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F] [Named F]

/-- The weights of tile `u` of trip `k`. -/
def ptile (i : grid0.Coords) (arg12 : Memref sig .tc .vmem S32768x256 .f32) (v39 : FVec F S1x256 .f32) (v675 : Vec F S8x256 .f32) (X12 : BufTy.Contents (Elt F) arg12.view.ty) (k : Fin (k0_t3_loop i).trips) (u : Fin 16) : FVec F S64x256 .f32 :=
  exp2 (subf (mulf (arg12.view.readAt (Elt F) (Rect.unit (s := S32768x256) (k0_off10 i k (BitVec.ofNat 32 (64 * u.val))) S64x256.size (k0_off10_inb i k u)).toLoadRect X12) (k0_pay258 v39)) (k0_pay259 v39 v675))

/-- Their codes. -/
def ctile (T : FVec F S64x256 .f32) : FVec F S64x256 .fp8e4m3 :=
  truncf .fp8e4m3 (minimumf (broadcast S64x256 (Scalar.ofBits .f32 0x43E00000#32)) (maximumf (broadcast S64x256 (Scalar.ofBits .f32 0xC3E00000#32)) T)) bitsLt_fp8e4m3_f32

theorem inb_tile (u : Fin 16) : ∀ a, (![64 * u.val, 0] : Fin 2 → ℕ) a + S64x256.size a ≤ S1024x256.size a := by
  revert u; decide

/-- The pieces of a trip's codes. -/
def codeL (i : grid0.Coords) (arg12 : Memref sig .tc .vmem S32768x256 .f32) (v39 : FVec F S1x256 .f32) (v675 : Vec F S8x256 .f32) (X12 : BufTy.Contents (Elt F) arg12.view.ty) (k : Fin (k0_t3_loop i).trips) : List (View.Piece (Elt F) S1024x256 .fp8e4m3) :=
  tilesR.map fun u => ⟨Rect.unit (s := S1024x256) ![64 * u.val, 0] S64x256.size (inb_tile u), shapeCast S64x256 (ctile (ptile i arg12 v39 v675 X12 k u)) shapeCasts_S64x256_S64x256⟩

/-- The sums a trip leaves; -/
theorem trip3_sums (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v39 : FVec F S1x256 .f32) (v633 : FVec F S8x256 .f32) (v651 : FVec F S64x256 .f32) (v656 : FVec F S8x256 .f32) (v675 : Vec F S8x256 .f32) (X6 : BufTy.Contents (Elt F) arg6.view.ty) (X12 : BufTy.Contents (Elt F) arg12.view.ty) (k : Fin (k0_t3_loop i).trips) (f13 : BufTy.Contents (Elt F) arg13.view.ty) (f14 : BufTy.Contents (Elt F) arg14.view.ty) (f16 : BufTy.Contents (Elt F) arg16.view.ty) :
    (trip_k0_t3 (F := F) 𝒱 c bd i arg4 harg4 arg5 harg5 arg6 harg6 arg7 harg7 arg8 harg8 arg9 harg9 arg10 harg10 arg11 harg11 arg12 harg12 arg13 harg13 arg14 harg14 arg15 harg15 arg16 harg16 0#32 v39 v633 v651 v656 v675 X6 X12 k).2.2.1 f13 f14 f16
      = [⟨Rect.unit ![0, 0] S8x256.size inb_S8x256_S8x256_0_0, shapeCast S8x256
          (tiles.foldl (fun acc u => sum8 acc (ptile i arg12 v39 v675 X12 k u)) (arg16.view.readAt (Elt F) (Rect.unit ![0, 0] S8x256.size inb_S8x256_S8x256_0_0).toLoadRect f16)) shapeCasts_S8x256_S8x256⟩] := by
  unfold trip_k0_t3
  rfl

/-- and the products it leaves. -/
theorem trip3_prods (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v39 : FVec F S1x256 .f32) (v633 : FVec F S8x256 .f32) (v651 : FVec F S64x256 .f32) (v656 : FVec F S8x256 .f32) (v675 : Vec F S8x256 .f32) (X6 : BufTy.Contents (Elt F) arg6.view.ty) (X12 : BufTy.Contents (Elt F) arg12.view.ty) (k : Fin (k0_t3_loop i).trips) (f13 : BufTy.Contents (Elt F) arg13.view.ty) (f14 : BufTy.Contents (Elt F) arg14.view.ty) (f16 : BufTy.Contents (Elt F) arg16.view.ty) :
    (trip_k0_t3 (F := F) 𝒱 c bd i arg4 harg4 arg5 harg5 arg6 harg6 arg7 harg7 arg8 harg8 arg9 harg9 arg10 harg10 arg11 harg11 arg12 harg12 arg13 harg13 arg14 harg14 arg15 harg15 arg16 harg16 0#32 v39 v633 v651 v656 v675 X6 X12 k).2.1 f13 f14 f16
      = [⟨Rect.unit ![0, 0] S64x256.size inb_S64x256_S64x256_0_0,
          k0_pay261 (arg14.view.readAt (Elt F) (Rect.unit ![0, 0] S64x256.size inb_S64x256_S64x256_0_0).toLoadRect f14)
            (arg6.view.readAt (Elt F) (Rect.unit (s := S1x64x32768) (k0_off11 i k) S1x64x1024.size (k0_off11_inb i k)).toLoadRect X6)
            (arg13.view.readCov (codeL i arg12 v39 v675 X12 k) (Rect.unit ![0, 0] S1024x256.size inb_S1024x256_S1024x256_0_0).toLoadRect)⟩] := by
  unfold trip_k0_t3
  rfl

end Cert.Proof.KernelIdeal

end
-- ==== Proof.TileVals.lean ====
/- What one tile holds at an index, over the extended reals: scores, masks, weights and codes, and the maxima and sums taken
   through the tiles of a chunk. -/
module

public import proofs.«01_k».proof.Proof.Masked
public import proofs.«01_k».proof.Proof.ValTrip
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

/-- One row of a product of a chunk: the dot product over the 128 coordinates. -/
theorem rawOf_apply (v30 : FVec Ideal S128x256 .fp8e4m3) (kx : Vec Ideal S1x1024x128 .fp8e4m3) (r : Fin 1024) (j : Fin 256) :
    rawOf v30 kx (ix2 r j) = ∑ d : Fin 128, kx (ix3 0 r d) * v30 (ix2 d j) := by
  pointwise [rawOf]

/-- A column's number within its half. -/
def half (j : Fin 256) : Fin 128 := ⟨j.val % 128, Nat.mod_lt _ (by decide)⟩

/-- A tile's score. -/
theorem tileS_apply (raw : FVec Ideal S1024x256 .f32) (ks : Vec Ideal S1x1x64x128 .f32) (u : Fin 16) (x : Fin 64) (j : Fin 256) :
    tileS raw ks u (ix2 x j) = raw (ix2 ⟨64 * u.val + x.val, by omega⟩ j) * ks (ix4 0 0 x (half j)) := by
  pointwise [tileS]
  congr 1
  split
  · next h => congr 2; exact Fin.ext (Nat.mod_eq_of_lt h).symm
  · next h => congr 2; exact Fin.ext (by simp only [half]; omega)

theorem max8_le (acc : FVec Ideal S8x256 .f32) (T : FVec Ideal S64x256 .f32) (g : Fin 8) (j : Fin 256) (b : EReal) :
    max8 acc T (ix2 g j) ≤ b ↔ acc (ix2 g j) ≤ b ∧ ∀ a : Fin 8, T (ix2 ⟨8 * a.val + g.val, by omega⟩ j) ≤ b := by
  pointwise [max8]
  simp only [max_le_iff]
  constructor
  · rintro ⟨⟨⟨⟨⟨⟨⟨⟨h, h0⟩, h1⟩, h2⟩, h3⟩, h4⟩, h5⟩, h6⟩, h7⟩
    refine ⟨h, fun a => ?_⟩
    fin_vals a with ha
    all_goals simp only [ha]
    all_goals simpa using by assumption
  · rintro ⟨h, H⟩
    have h0 := H 0; have h1 := H 1; have h2 := H 2; have h3 := H 3
    have h4 := H 4; have h5 := H 5; have h6 := H 6; have h7 := H 7
    refine ⟨⟨⟨⟨⟨⟨⟨⟨h, ?_⟩, h1⟩, h2⟩, h3⟩, h4⟩, h5⟩, h6⟩, h7⟩
    simpa using h0

theorem sum8_apply (acc : FVec Ideal S8x256 .f32) (T : FVec Ideal S64x256 .f32) (g : Fin 8) (j : Fin 256) :
    sum8 acc T (ix2 g j) = acc (ix2 g j) + ∑ a : Fin 8, T (ix2 ⟨8 * a.val + g.val, by omega⟩ j) := by
  pointwise [sum8]
  simp only [Fin.sum_univ_eight]
  simp [add_assoc]

/-- The maxima through a list of tiles, -/
theorem foldl_max8_le (L : List (Fin 16)) (T : Fin 16 → FVec Ideal S64x256 .f32) (acc : FVec Ideal S8x256 .f32) (g : Fin 8) (j : Fin 256) (b : EReal) :
    L.foldl (fun acc u => max8 acc (T u)) acc (ix2 g j) ≤ b
      ↔ acc (ix2 g j) ≤ b ∧ ∀ u ∈ L, ∀ a : Fin 8, T u (ix2 ⟨8 * a.val + g.val, by omega⟩ j) ≤ b := by
  induction L generalizing acc with
  | nil => simp
  | cons u L ih => rw [List.foldl_cons, ih, max8_le, List.forall_mem_cons, and_assoc]

/-- and the sums. -/
theorem foldl_sum8 (L : List (Fin 16)) (T : Fin 16 → FVec Ideal S64x256 .f32) (acc : FVec Ideal S8x256 .f32) (g : Fin 8) (j : Fin 256) :
    L.foldl (fun acc u => sum8 acc (T u)) acc (ix2 g j)
      = acc (ix2 g j) + (L.map fun u => ∑ a : Fin 8, T u (ix2 ⟨8 * a.val + g.val, by omega⟩ j)).sum := by
  induction L generalizing acc with
  | nil => simp
  | cons u L ih => rw [List.foldl_cons, ih, sum8_apply, List.map_cons, List.sum_cons, add_assoc]

theorem sum_tiles (f : Fin 16 → EReal) : (tiles.map f).sum = ∑ u, f u := by
  rw [← List.sum_ofFn]; congr 1

variable (i : grid0.Coords) (arg4 : Memref sig .tc .vmem S1x32768x128 .fp8e4m3) (arg5 : Memref sig .tc .vmem S1x1x32768x128 .f32)
    (v30 : FVec Ideal S128x256 .fp8e4m3) (X4 : BufTy.Contents (Elt Ideal) arg4.view.ty) (X5 : BufTy.Contents (Elt Ideal) arg5.view.ty)

/-- The score of key `r` and column `j`, before the query's scale; minus infinity for a key after the query. -/
def score (r : Fin 32768) (j : Fin 256) : EReal :=
  if r.val ≤ 128 * (i 2).val + j.val % 128 then
    (∑ d : Fin 128, arg4.view.read (Elt Ideal) X4 (ix3 0 r d) * v30 (ix2 d j)) * arg5.view.read (Elt Ideal) X5 (ix4 0 0 r (half j))
  else ⊥

theorem tile1_apply (k : Fin (k0_t1_loop i).trips) (u : Fin 16) (x : Fin 64) (j : Fin 256) (h : 1024 * k.val + 64 * u.val + x.val < 32768) :
    tile1 i arg4 arg5 v30 X4 X5 k u (ix2 x j) = score i arg4 arg5 v30 X4 X5 ⟨1024 * k.val + 64 * u.val + x.val, h⟩ j := by
  have hk := lt_of_lt_of_eq k.isLt (trips1 i)
  rw [score, if_pos (by show 1024 * k.val + 64 * u.val + x.val ≤ _; omega), tile1, tileS_apply, rawOf_apply,
    View.readAt_unit_congr arg4.view (off1_eq i k) _ (off1_eq i k ▸ k0_off1_inb i k),
    View.readAt_unit_congr arg5.view (off2_eq i k _) _ (off2_eq i k _ ▸ k0_off2_inb i k u)]
  pointwise [View.readAt_apply]
  congr 1
  · refine Finset.sum_congr rfl fun d _ => ?_
    congr 3; exact Fin.ext (by dsimp only <;> omega)
  · congr 2; exact Fin.ext (by dsimp only <;> omega)

theorem v0_eq : kernelRun.sl.v0 i = BitVec.ofNat 32 (128 * (i 2).val) := by
  have h : ∀ n : Fin 256, kernelRun.sl.v0 (tile n) = BitVec.ofNat 32 (128 * n.val) := by decide +kernel
  exact h (i 2)

theorem v57_eq : kernelRun.sl.v57 i = BitVec.ofNat 32 (1024 * ((i 2).val / 8)) := by
  have h : ∀ n : Fin 256, kernelRun.sl.v57 (tile n) = BitVec.ofNat 32 (1024 * (n.val / 8)) := by decide +kernel
  exact h (i 2)

/-- Words of small numbers compare as the numbers do. -/
theorem sle_ofNat (a b : ℕ) (ha : a < 2147483648) (hb : b < 2147483648) :
    IntOp.cmpi .sle (BitVec.ofNat 32 a) (BitVec.ofNat 32 b) = BitVec.ofBool (decide (a ≤ b)) := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  show BitVec.ofBool (BitVec.sle _ _) = _
  rw [BitVec.sle, h1, h2]
  simp

theorem and127 (j : Fin 256) : IntOp.andi (BitVec.ofNat 32 j.val) 127#32 = BitVec.ofNat 32 (j.val % 128) := by
  revert j; decide +kernel

theorem neg_inf : Ideal.ofBits .f32 0xFF800000#32 = (⊥ : EReal) := by
  simp [Ideal.ofBits, Ideal.ieee]

theorem tileM_apply (u : Fin 16) (x : Fin 64) (j : Fin 256) (h : 1024 * ((i 2).val / 8) + 64 * u.val + x.val < 32768) :
    tileM i arg4 arg5 v30 X4 X5 u (ix2 x j) = score i arg4 arg5 v30 X4 X5 ⟨1024 * ((i 2).val / 8) + 64 * u.val + x.val, h⟩ j := by
  have hi : (i 2).val < 256 := (i 2).isLt
  pointwise [tileM]
  rw [v57_eq, v0_eq, and127]
  have e1 : IntOp.addi (Scalar.addi (BitVec.ofNat 32 (1024 * ((i 2).val / 8))) (BitVec.ofNat 32 (64 * u.val))) (BitVec.ofNat 32 x.val)
      = BitVec.ofNat 32 (1024 * ((i 2).val / 8) + 64 * u.val + x.val) := by
    show _ + _ + _ = _
    rw [← BitVec.ofNat_add, ← BitVec.ofNat_add]
  have e2 : IntOp.addi (BitVec.ofNat 32 (128 * (i 2).val)) (BitVec.ofNat 32 (j.val % 128)) = BitVec.ofNat 32 (128 * (i 2).val + j.val % 128) := by
    show _ + _ = _
    rw [← BitVec.ofNat_add]
  rw [e1, e2, sle_ofNat _ _ (by omega) (by omega), score, neg_inf, tileS_apply, rawM, rawOf_apply,
    View.readAt_unit_congr arg4.view (off7_eq i) _ (off7_eq i ▸ k0_off7_inb i),
    View.readAt_unit_congr arg5.view (off8_eq i _) _ (off8_eq i _ ▸ k0_off8_inb i u)]
  by_cases hle : 1024 * ((i 2).val / 8) + 64 * u.val + x.val ≤ 128 * (i 2).val + j.val % 128
  · rw [decide_eq_true hle, if_pos hle]
    show _ = _
    pointwise [View.readAt_apply]
    congr 1
    · refine Finset.sum_congr rfl fun d _ => ?_
      congr 3; exact Fin.ext (by dsimp only <;> omega)
    · congr 2; exact Fin.ext (by dsimp only <;> omega)
  · rw [decide_eq_false hle, if_neg hle]
    rfl

/-- A weight: the exponential, to base two, of the score times the query's scale less the largest, raised by eight. -/
theorem ptile_apply (arg12 : Memref sig .tc .vmem S32768x256 .f32) (v39 : FVec Ideal S1x256 .f32) (v675 : Vec Ideal S8x256 .f32) (X12 : BufTy.Contents (Elt Ideal) arg12.view.ty)
    (k : Fin (k0_t3_loop i).trips) (u : Fin 16) (x : Fin 64) (j : Fin 256) (h : 1024 * k.val + 64 * u.val + x.val < 32768) :
    ptile i arg12 v39 v675 X12 k u (ix2 x j)
      = FloatOps.exp2 (F := Ideal) (φ := .f32) (arg12.view.read (Elt Ideal) X12 (ix2 ⟨1024 * k.val + 64 * u.val + x.val, h⟩ j) * v39 (ix2 0 j)
          - (k0_pay257 v675 (ix2 0 j) * v39 (ix2 0 j) - Ideal.ofBits .f32 0x41000000#32)) := by
  have hk := lt3 i k
  rw [ptile, View.readAt_unit_congr arg12.view (off10_eq i k _) _ (off10_eq i k _ ▸ k0_off10_inb i k u)]
  pointwise [View.readAt_apply, k0_pay258, k0_pay259]
  simp only [dite_eq_ite, ite_self]
  congr 5
  exact Fin.ext (by dsimp only <;> omega)

theorem ctile_apply (T : FVec Ideal S64x256 .f32) (x : Fin 64) (j : Fin 256) :
    ctile T (ix2 x j) = min (Ideal.ofBits .f32 0x43E00000#32) (max (Ideal.ofBits .f32 0xC3E00000#32) (T (ix2 x j))) := by
  pointwise [ctile]

/-- The largest of eight rows. -/
theorem pay257_le (v : Vec Ideal S8x256 .f32) (j : Fin 256) (b : EReal) :
    k0_pay257 v (ix2 0 j) ≤ b ↔ ∀ g : Fin 8, v (ix2 g j) ≤ b := by
  pointwise [k0_pay257]
  rw [neg_inf, Finset.fold_max_le]
  simp

end Cert.Proof.KernelIdeal

end
-- ==== Proof.Chunks.lean ====
/- What the two loops leave, over the extended reals: the scores of all the keys up to the end of the masked chunk, the maxima
   over them, and the sums of the weights and the products with the values. -/
module

public import proofs.«01_k».proof.Proof.TileVals

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

/-- A function of key and column as a function of the scores' index. -/
def atRow (G : Fin 32768 → Fin 256 → EReal) (y : S32768x256.Idx) : EReal := G (y 0) (y 1)

/-- A piece of 64 rows that holds a function's values at its rows holds them where it is written; -/
theorem piece_eq (G : Fin 32768 → Fin 256 → EReal) (n : ℕ) (off : Fin 2 → ℕ) (ho : off = ![n, 0]) (inb : ∀ a, off a + S64x256.size a ≤ S32768x256.size a)
    (w : FVec Ideal S64x256 .f32) (hw : ∀ (a : Fin 64) (b : Fin 256) (h : n + a.val < 32768), w (ix2 a b) = G ⟨n + a.val, h⟩ b)
    (x : (Rect.unit (s := S32768x256) off S64x256.size inb).shape.Idx) :
    (shapeCast S64x256 w shapeCasts_S64x256_S64x256) x = atRow G ((Rect.unit (s := S32768x256) off S64x256.size inb).emb x) := by
  subst ho
  rw [shapeCast_self]
  obtain ⟨a, b, rfl⟩ : ∃ (a : Fin 64) (b : Fin 256), x = ix2 a b := ⟨x 0, x 1, eq_ix2 x⟩
  have h0 : n + 64 ≤ 32768 := inb 0
  rw [hw a b (by omega)]
  unfold atRow
  congr 1
  · exact Fin.ext (by show n + a.val = n + 1 * a.val; omega)
  · exact Fin.ext (by show b.val = 0 + 1 * b.val; omega)

/-- and covers its rows. -/
theorem piece_cover (n : ℕ) (off : Fin 2 → ℕ) (ho : off = ![n, 0]) (inb : ∀ a, off a + S64x256.size a ≤ S32768x256.size a)
    (r : Fin 32768) (j : Fin 256) (h : n ≤ r.val ∧ r.val < n + 64) :
    (ix2 r j : S32768x256.Idx) ∈ (Rect.unit (s := S32768x256) off S64x256.size inb).set := by
  subst ho
  rw [Rect.mem_set_unit]
  intro a
  match a with
  | ⟨0, _⟩ => exact h
  | ⟨1, _⟩ => exact ⟨Nat.zero_le _, by show j.val < 0 + 256; omega⟩

section
variable (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v17 : BitVec 32) (v30 : FVec Ideal S128x256 .fp8e4m3) (v32 : FVec Ideal S1x128 .f32)
    (X4 : BufTy.Contents (Elt Ideal) arg4.view.ty) (X5 : BufTy.Contents (Elt Ideal) arg5.view.ty)

/-- The pieces of the whole chunks hold the scores, -/
theorem st1_scores (k : ℕ) (hk : k ≤ (k0_t1_loop i).trips) :
    ∀ p ∈ (st1 (F := Ideal) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 (View.writes arg15.view (Elt Ideal) (View.junk arg15.view) (kernelRun.sl.H15_1 (F := Ideal))) k).1, ∀ x : p.1.shape.Idx, p.2 x = atRow (score i arg4 arg5 v30 X4 X5) (p.1.emb x) := by
  induction k with
  | zero => intro p hp; simp [st1] at hp
  | succ k ih =>
    intro p hp x
    rw [st1_succ 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 _ ⟨k, hk⟩] at hp
    rcases List.mem_append.mp hp with hp | hp
    · rw [trip1_scores] at hp
      obtain ⟨u, -, rfl⟩ := List.mem_map.mp hp
      have h2 : k < 33 := lt1 i ⟨k, hk⟩
      refine piece_eq (score i arg4 arg5 v30 X4 X5) (1024 * k + 64 * u.val) _ ((off3_eq i ⟨k, hk⟩ _).trans ?_) (k0_off3_inb i ⟨k, hk⟩ u) (tile1 i arg4 arg5 v30 X4 X5 ⟨k, hk⟩ u) (fun a b h => ?_) x
      · rw [Nat.mod_eq_of_lt (by dsimp only; omega)]
      · exact tile1_apply i arg4 arg5 v30 X4 X5 ⟨k, hk⟩ u a b h
    · exact ih (Nat.le_of_succ_le hk) p hp x

/-- and cover their rows. -/
theorem st1_cover (k : ℕ) (hk : k ≤ (k0_t1_loop i).trips) (r : Fin 32768) (j : Fin 256) (hr : r.val < 1024 * k) :
    ∃ p ∈ (st1 (F := Ideal) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 (View.writes arg15.view (Elt Ideal) (View.junk arg15.view) (kernelRun.sl.H15_1 (F := Ideal))) k).1, (ix2 r j : S32768x256.Idx) ∈ p.1.set := by
  induction k with
  | zero => omega
  | succ k ih =>
    rw [st1_succ 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 _ ⟨k, hk⟩]
    have h2 := lt1 i ⟨k, hk⟩
    by_cases h : r.val < 1024 * k
    · obtain ⟨p, hp, hy⟩ := ih (Nat.le_of_succ_le hk) h
      exact ⟨p, List.mem_append_right _ hp, hy⟩
    · have hu : (r.val - 1024 * k) / 64 < 16 := by omega
      refine ⟨_, List.mem_append_left _ (by rw [trip1_scores]; exact List.mem_map.mpr ⟨⟨_, hu⟩, mem_tilesR _, rfl⟩), ?_⟩
      refine piece_cover (1024 * k + 64 * ((r.val - 1024 * k) / 64)) _ ((off3_eq i ⟨k, hk⟩ _).trans ?_) (k0_off3_inb i ⟨k, hk⟩ ⟨_, hu⟩) r j (by omega)
      rw [Nat.mod_eq_of_lt (by dsimp only; omega)]

/-- A load of the whole of a buffer last written whole. -/
theorem readAt_whole {s : Shape} {e : EltTy} (v : View sig .tc .vmem s e) (R : Rect s) (w : R.shape.Idx → Elt Ideal e) (f : v.ty.Contents (Elt Ideal)) (L : List (View.Piece (Elt Ideal) s e)) :
    v.readAt (Elt Ideal) R.toLoadRect (v.writes (Elt Ideal) f (⟨R, w⟩ :: L)) = w :=
  funext fun x => View.read_writes_cons_emb v f R w L x

/-- The maxima after `k` whole chunks: those of the scores of the chunks' keys, by the keys' remainders modulo eight. -/
theorem st1_maxima (k : ℕ) (hk : k ≤ (k0_t1_loop i).trips) :
    ∃ (w : FVec Ideal S8x256 .f32) (L : List (View.Piece (Elt Ideal) S8x256 .f32)), (st1 (F := Ideal) 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 (View.writes arg15.view (Elt Ideal) (View.junk arg15.view) (kernelRun.sl.H15_1 (F := Ideal))) k).2 ++ kernelRun.sl.H15_1 (F := Ideal) = ⟨(Rect.unit (s := S8x256) ![0, 0] S8x256.size inb_S8x256_S8x256_0_0), w⟩ :: L
      ∧ ∀ (g : Fin 8) (j : Fin 256) (b : EReal), w (ix2 g j) ≤ b ↔ ∀ r : Fin 32768, r.val < 1024 * k → r.val % 8 = g.val → score i arg4 arg5 v30 X4 X5 r j ≤ b := by
  induction k with
  | zero =>
    refine ⟨_, _, rfl, fun g j b => ?_⟩
    pointwise [k0_pay194]
    rw [neg_inf]
    simp
  | succ k ih =>
    obtain ⟨w, L, hL, hw⟩ := ih (Nat.le_of_succ_le hk)
    have h2 := lt_of_lt_of_eq (show k < _ from hk) (trips1 i)
    have hi : (i 2).val < 256 := (i 2).isLt
    rw [st1_succ 𝒱 c bd i arg4 harg4 arg5 harg5 arg6 harg6 arg7 harg7 arg8 harg8 arg9 harg9 arg10 harg10 arg11 harg11 arg12 harg12 arg13 harg13 arg14 harg14 arg15 harg15 arg16 harg16 v17 v30 v32 X4 X5 _ ⟨k, hk⟩, trip1_maxima, ← View.writes_append, List.append_assoc, hL, readAt_whole]
    refine ⟨_, _, rfl, fun g j b => ?_⟩
    rw [shapeCast_self, foldl_max8_le, hw]
    constructor
    · rintro ⟨h, H⟩ r hr hg
      by_cases hlt : r.val < 1024 * k
      · exact h r hlt hg
      · have hu : (r.val - 1024 * k) / 64 < 16 := by omega
        have ha : (r.val - 1024 * k) % 64 / 8 < 8 := by omega
        have := H ⟨_, hu⟩ (mem_tiles _) ⟨_, ha⟩
        rw [tile1_apply _ _ _ _ _ _ _ _ _ _ (by dsimp only; omega)] at this
        refine le_of_eq_of_le ?_ this
        congr 1; exact Fin.ext (by dsimp only; omega)
    · intro H
      refine ⟨fun r hr hg => H r (by omega) hg, fun u _ a => ?_⟩
      rw [tile1_apply _ _ _ _ _ _ _ _ _ _ (by dsimp only; omega)]
      exact H _ (by dsimp only; omega) (by dsimp only; omega)

end

section
variable (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt Ideal) arg4.view.ty) (X5 : BufTy.Contents (Elt Ideal) arg5.view.ty) (X7 : BufTy.Contents (Elt Ideal) arg7.view.ty) (X8 : BufTy.Contents (Elt Ideal) arg8.view.ty)

/-- When the masked chunk is done the scores of every key up to its end can be read. -/
theorem scores_read (f12 : BufTy.Contents (Elt Ideal) arg12.view.ty) (r : Fin 32768) (j : Fin 256) (hr : r.val < 1024 * ((i 2).val / 8 + 1)) :
    arg12.view.read (Elt Ideal) (View.writes arg12.view (Elt Ideal) f12 (scoreL (F := Ideal) 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)) (ix2 r j)
      = score i arg4 arg5 (kernelRun.sl.v30 i arg7 X7) X4 X5 r j := by
  have hi : (i 2).val < 256 := (i 2).isLt
  refine View.read_writes_apply_of_pieces (Val := Elt Ideal) (e := .f32) (s := S32768x256) _ _ (atRow (score i arg4 arg5 (kernelRun.sl.v30 i arg7 X7) X4 X5)) _ ?_ _ ?_
  · intro p hp x
    rcases List.mem_append.mp hp with hp | hp
    · obtain ⟨u, -, rfl⟩ := List.mem_map.mp hp
      refine piece_eq (score i arg4 arg5 (kernelRun.sl.v30 i arg7 X7) X4 X5) (1024 * ((i 2).val / 8) + 64 * u.val) _ ((off9_eq i _).trans ?_) (k0_off9_inb i u) (tileM i arg4 arg5 (kernelRun.sl.v30 i arg7 X7) X4 X5 u) (fun a b h => ?_) x
      · rw [Nat.mod_eq_of_lt (by omega)]
      · exact tileM_apply i arg4 arg5 _ X4 X5 u a b h
    · exact st1_scores _ _ _ _ _ _ _ _ _ _ _ _ _ _ _ _ _ _ _ _ _ _ _ _ _ _ _ _ _ _ _ _ _ _ _ _ le_rfl p hp x
  · by_cases h : r.val < 1024 * ((i 2).val / 8)
    · obtain ⟨p, hp, hy⟩ := st1_cover 𝒱 c bd i arg4 harg4 arg5 harg5 arg6 harg6 arg7 harg7 arg8 harg8 arg9 harg9 arg10 harg10 arg11 harg11 arg12 harg12 arg13 harg13 arg14 harg14 arg15 harg15 arg16 harg16 (kernelRun.sl.v17 i) (kernelRun.sl.v30 i arg7 X7) (kernelRun.sl.v32 arg8 X8) X4 X5 _ le_rfl r j (by rw [trips1]; exact h)
      exact ⟨p, List.mem_append_right _ hp, hy⟩
    · have hu : (r.val - 1024 * ((i 2).val / 8)) / 64 < 16 := by omega
      refine ⟨_, List.mem_append_left _ (List.mem_map.mpr ⟨⟨_, hu⟩, mem_tilesR _, rfl⟩), ?_⟩
      refine piece_cover (1024 * ((i 2).val / 8) + 64 * ((r.val - 1024 * ((i 2).val / 8)) / 64)) _ ((off9_eq i _).trans ?_) (k0_off9_inb i ⟨_, hu⟩) r j (by omega)
      rw [Nat.mod_eq_of_lt (by omega)]

/-- The maxima, when the masked chunk is done. -/
theorem maxL_le (g : Fin 8) (j : Fin 256) (b : EReal) :
    maxL (F := Ideal) 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 (ix2 g j) ≤ b
      ↔ ∀ r : Fin 32768, r.val < 1024 * ((i 2).val / 8 + 1) → r.val % 8 = g.val → score i arg4 arg5 (kernelRun.sl.v30 i arg7 X7) X4 X5 r j ≤ b := by
  have hi : (i 2).val < 256 := (i 2).isLt
  obtain ⟨w, L, hL, hw⟩ := st1_maxima 𝒱 c bd i arg4 harg4 arg5 harg5 arg6 harg6 arg7 harg7 arg8 harg8 arg9 harg9 arg10 harg10 arg11 harg11 arg12 harg12 arg13 harg13 arg14 harg14 arg15 harg15 arg16 harg16 (kernelRun.sl.v17 i) (kernelRun.sl.v30 i arg7 X7) (kernelRun.sl.v32 arg8 X8) X4 X5 _ le_rfl
  rw [maxL, hL, View.readCov_cons_toLoadRect, foldl_max8_le, hw, trips1]
  constructor
  · rintro ⟨h, H⟩ r hr hg
    by_cases hlt : r.val < 1024 * ((i 2).val / 8)
    · exact h r hlt hg
    · have hu : (r.val - 1024 * ((i 2).val / 8)) / 64 < 16 := by omega
      have ha : (r.val - 1024 * ((i 2).val / 8)) % 64 / 8 < 8 := by omega
      have := H ⟨_, hu⟩ (mem_tiles _) ⟨_, ha⟩
      rw [tileM_apply _ _ _ _ _ _ _ _ _ (by dsimp only; omega)] at this
      refine le_of_eq_of_le ?_ this
      congr 1; exact Fin.ext (by dsimp only; omega)
  · intro H
    refine ⟨fun r hr hg => H r (by omega) hg, fun u _ a => ?_⟩
    rw [tileM_apply _ _ _ _ _ _ _ _ _ (by dsimp only; omega)]
    exact H _ (by dsimp only; omega) (by dsimp only; omega)

end

section
variable (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (v39 : FVec Ideal S1x256 .f32) (v633 : FVec Ideal S8x256 .f32) (v651 : FVec Ideal S64x256 .f32) (v656 : FVec Ideal S8x256 .f32) (v675 : Vec Ideal S8x256 .f32) (X6 : BufTy.Contents (Elt Ideal) arg6.view.ty) (X12 : BufTy.Contents (Elt Ideal) arg12.view.ty) (f13 : BufTy.Contents (Elt Ideal) arg13.view.ty)

/-- The weight of key `r` at column `j`, zero past the last key. -/
def weight (r : ℕ) (j : Fin 256) : EReal :=
  if h : r < 32768 then FloatOps.exp2 (F := Ideal) (φ := .f32) (arg12.view.read (Elt Ideal) X12 (ix2 ⟨r, h⟩ j) * v39 (ix2 0 j)
          - (k0_pay257 v675 (ix2 0 j) * v39 (ix2 0 j) - Ideal.ofBits .f32 0x41000000#32)) else 0

/-- Its code. -/
def code (w : EReal) : EReal := min (Ideal.ofBits .f32 0x43E00000#32) (max (Ideal.ofBits .f32 0xC3E00000#32) w)

/-- The value of key `r` at coordinate `d`, zero past the last key. -/
def value (r : ℕ) (d : Fin 64) : EReal :=
  if h : r < 32768 then arg6.view.read (Elt Ideal) X6 (ix3 0 d ⟨r, h⟩) else 0

theorem ptile_weight (k : Fin (k0_t3_loop i).trips) (u : Fin 16) (x : Fin 64) (j : Fin 256) :
    ptile i arg12 v39 v675 X12 k u (ix2 x j) = weight arg12 v39 v675 X12 (1024 * k.val + 64 * u.val + x.val) j := by
  have hk := lt_of_lt_of_eq k.isLt (trips3 i)
  have hi : (i 2).val < 256 := (i 2).isLt
  have h : 1024 * k.val + 64 * u.val + x.val < 32768 := by omega
  rw [ptile_apply _ _ _ _ _ _ _ _ _ h, weight, dif_pos h]

/-- A sum over a range of products of lengths, taken in pieces. -/
theorem sum_range_mul (f : ℕ → EReal) (m n : ℕ) : ∑ z ∈ Finset.range (n * m), f z = ∑ x ∈ Finset.range m, ∑ y ∈ Finset.range n, f (n * x + y) := by
  induction m with
  | zero => simp
  | succ m ih => rw [Nat.mul_succ, Finset.sum_range_add, ih, Finset.sum_range_succ]

theorem sum_chunk (f : ℕ → EReal) : ∑ u : Fin 16, ∑ a : Fin 8, f (8 * u.val + a.val) = ∑ n ∈ Finset.range 128, f n := by
  rw [show 128 = 8 * 16 from rfl, sum_range_mul, Finset.sum_range]
  simp only [Finset.sum_range]

/-- The sums after `k` chunks, -/
theorem pb_sums (k : ℕ) (hk : k ≤ (k0_t3_loop i).trips) :
    ∃ (w : FVec Ideal S8x256 .f32) (L : List (View.Piece (Elt Ideal) S8x256 .f32)), (pb_k0_t3 (F := Ideal) 𝒱 c bd i arg4 harg4 arg5 harg5 arg6 harg6 arg7 harg7 arg8 harg8 arg9 harg9 arg10 harg10 arg11 harg11 arg12 harg12 arg13 harg13 arg14 harg14 arg15 harg15 arg16 harg16 0#32 v39 v633 v651 v656 v675 X6 X12 f13 (View.writes arg14.view (Elt Ideal) (View.junk arg14.view) (kernelRun.sl.H14_1 (F := Ideal))) (View.writes arg16.view (Elt Ideal) (View.junk arg16.view) (kernelRun.sl.H16_1 (F := Ideal))) k).2.2 ++ kernelRun.sl.H16_1 (F := Ideal) = ⟨(Rect.unit (s := S8x256) ![0, 0] S8x256.size inb_S8x256_S8x256_0_0), w⟩ :: L
      ∧ ∀ (g : Fin 8) (j : Fin 256), w (ix2 g j) = ∑ n ∈ Finset.range (128 * k), weight arg12 v39 v675 X12 (8 * n + g.val) j := by
  induction k with
  | zero =>
    refine ⟨_, _, rfl, fun g j => ?_⟩
    pointwise [k0_pay195]
    simp
  | succ k ih =>
    obtain ⟨w, L, hL, hw⟩ := ih (Nat.le_of_succ_le hk)
    rw [pb_k0_t3_succ 𝒱 c bd i arg4 harg4 arg5 harg5 arg6 harg6 arg7 harg7 arg8 harg8 arg9 harg9 arg10 harg10 arg11 harg11 arg12 harg12 arg13 harg13 arg14 harg14 arg15 harg15 arg16 harg16 0#32 v39 v633 v651 v656 v675 X6 X12 _ _ _ ⟨k, hk⟩]
    dsimp only [tripL_k0_t3]
    rw [trip3_sums, ← View.writes_append, List.append_assoc, hL, readAt_whole]
    refine ⟨_, _, rfl, fun g j => ?_⟩
    rw [shapeCast_self, foldl_sum8, hw, sum_tiles, Nat.mul_succ, Finset.sum_range_add]
    congr 1
    rw [← sum_chunk]
    refine Finset.sum_congr rfl fun u _ => Finset.sum_congr rfl fun a _ => ?_
    rw [ptile_weight]
    congr 1
    dsimp only; omega

/-- The codes of a chunk, read whole. -/
theorem codes_read (k : Fin (k0_t3_loop i).trips) (r : Fin 1024) (j : Fin 256) :
    arg13.view.readCov (codeL i arg12 v39 v675 X12 k) (Rect.unit ![0, 0] S1024x256.size inb_S1024x256_S1024x256_0_0).toLoadRect (ix2 r j)
      = code (weight arg12 v39 v675 X12 (1024 * k.val + r.val) j) := by
  rw [View.readCov_eq_canon']
  have e : ((Rect.unit ![0, 0] S1024x256.size inb_S1024x256_S1024x256_0_0).toLoadRect.idx (ix2 r j) : S1024x256.Idx) = ix2 r j := by
    pointwise
  refine (congrArg (View.canon (Val := Elt Ideal) (codeL i arg12 v39 v675 X12 k)) e).trans ?_
  refine View.canon_apply_of_pieces (Val := Elt Ideal) (e := .fp8e4m3) (fun y : S1024x256.Idx => code (weight arg12 v39 v675 X12 (1024 * k.val + (y 0).val) (y 1))) _ ?_ _ ?_
  · intro p hp x
    obtain ⟨u, -, rfl⟩ := List.mem_map.mp hp
    obtain ⟨a, b, rfl⟩ : ∃ (a : Fin 64) (b : Fin 256), x = ix2 a b := ⟨x 0, x 1, eq_ix2 x⟩
    show shapeCast S64x256 (ctile (ptile i arg12 v39 v675 X12 k u)) shapeCasts_S64x256_S64x256 (ix2 a b) = code (weight arg12 v39 v675 X12 (1024 * k.val + (64 * u.val + 1 * a.val)) _)
    rw [shapeCast_self, ctile_apply, ptile_weight, code]
    have e2 : (Rect.unit (s := S1024x256) ![64 * u.val, 0] S64x256.size (inb_tile u)).emb (ix2 a b) 1 = b :=
      Fin.ext (by show 0 + 1 * b.val = b.val; omega)
    refine congrArg _ (congrArg _ (congrArg₂ (weight arg12 v39 v675 X12) (by omega) e2.symm))
  · have hu : r.val / 64 < 16 := by omega
    refine ⟨_, List.mem_map.mpr ⟨⟨_, hu⟩, mem_tilesR _, rfl⟩, ?_⟩
    dsimp only
    rw [Rect.mem_set_unit]
    intro a
    match a with
    | ⟨0, _⟩ => exact ⟨by show 64 * (r.val / 64) ≤ r.val; omega, by show r.val < 64 * (r.val / 64) + 64; omega⟩
    | ⟨1, _⟩ => exact ⟨Nat.zero_le _, by show j.val < 0 + 256; omega⟩

/-- and the products. -/
theorem pb_prods (k : ℕ) (hk : k ≤ (k0_t3_loop i).trips) :
    ∃ (w : FVec Ideal S64x256 .f32) (L : List (View.Piece (Elt Ideal) S64x256 .f32)), (pb_k0_t3 (F := Ideal) 𝒱 c bd i arg4 harg4 arg5 harg5 arg6 harg6 arg7 harg7 arg8 harg8 arg9 harg9 arg10 harg10 arg11 harg11 arg12 harg12 arg13 harg13 arg14 harg14 arg15 harg15 arg16 harg16 0#32 v39 v633 v651 v656 v675 X6 X12 f13 (View.writes arg14.view (Elt Ideal) (View.junk arg14.view) (kernelRun.sl.H14_1 (F := Ideal))) (View.writes arg16.view (Elt Ideal) (View.junk arg16.view) (kernelRun.sl.H16_1 (F := Ideal))) k).2.1 ++ kernelRun.sl.H14_1 (F := Ideal) = ⟨(Rect.unit (s := S64x256) ![0, 0] S64x256.size inb_S64x256_S64x256_0_0), w⟩ :: L
      ∧ ∀ (d : Fin 64) (j : Fin 256), w (ix2 d j) = ∑ r ∈ Finset.range (1024 * k), value arg6 X6 r d * code (weight arg12 v39 v675 X12 r j) := by
  induction k with
  | zero =>
    refine ⟨_, _, rfl, fun g j => ?_⟩
    pointwise [k0_pay196]
    simp
  | succ k ih =>
    obtain ⟨w, L, hL, hw⟩ := ih (Nat.le_of_succ_le hk)
    have hk2 := lt_of_lt_of_eq (show k < _ from hk) (trips3 i)
    have hi : (i 2).val < 256 := (i 2).isLt
    rw [pb_k0_t3_succ 𝒱 c bd i arg4 harg4 arg5 harg5 arg6 harg6 arg7 harg7 arg8 harg8 arg9 harg9 arg10 harg10 arg11 harg11 arg12 harg12 arg13 harg13 arg14 harg14 arg15 harg15 arg16 harg16 0#32 v39 v633 v651 v656 v675 X6 X12 _ _ _ ⟨k, hk⟩]
    dsimp only [tripL_k0_t3]
    rw [trip3_prods, ← View.writes_append, List.append_assoc, hL, readAt_whole]
    refine ⟨_, _, rfl, fun d j => ?_⟩
    rw [View.readAt_unit_congr arg6.view (off11_eq i ⟨k, hk⟩) _ (off11_eq i ⟨k, hk⟩ ▸ k0_off11_inb i ⟨k, hk⟩)]
    pointwise [k0_pay261, View.readAt_apply]
    rw [hw, Nat.mul_succ, Finset.sum_range_add, Finset.sum_range (n := 1024)]
    congr 1
    refine Finset.sum_congr rfl fun r _ => ?_
    rw [codes_read, value, dif_pos (by omega)]

end

section
variable (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f12 : BufTy.Contents (Elt Ideal) arg12.view.ty) (f13 : BufTy.Contents (Elt Ideal) arg13.view.ty)

/-- The sums over all the keys, -/
theorem sumL_apply (g : Fin 8) (j : Fin 256) :
    sumL (F := Ideal) 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13 (ix2 g j)
      = ∑ n ∈ Finset.range (128 * ((i 2).val / 8 + 1)), weight arg12 (kernelRun.sl.r_1 arg8 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)
          (View.writes arg12.view (Elt Ideal) f12 (scoreL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)) (8 * n + g.val) j := by
  obtain ⟨w, L, hL, hw⟩ := pb_sums 𝒱 c bd i arg4 harg4 arg5 harg5 arg6 harg6 arg7 harg7 arg8 harg8 arg9 harg9 arg10 harg10 arg11 harg11 arg12 harg12 arg13 harg13 arg14 harg14 arg15 harg15 arg16 harg16 (kernelRun.sl.r_1 arg8 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) (constant S64x256 .f32 0x00000000#32) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) X6 (View.writes arg12.view (Elt Ideal) f12 (scoreL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)) f13 _ le_rfl
  rw [sumL, pbL, hL, View.readCov_cons_toLoadRect, hw, trips3]

/-- and the products. -/
theorem prodL_apply (d : Fin 64) (j : Fin 256) :
    prodL (F := Ideal) 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13 (ix2 d j)
      = ∑ r ∈ Finset.range (1024 * ((i 2).val / 8 + 1)), value arg6 X6 r d * code (weight arg12 (kernelRun.sl.r_1 arg8 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)
          (View.writes arg12.view (Elt Ideal) f12 (scoreL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)) r j) := by
  obtain ⟨w, L, hL, hw⟩ := pb_prods 𝒱 c bd i arg4 harg4 arg5 harg5 arg6 harg6 arg7 harg7 arg8 harg8 arg9 harg9 arg10 harg10 arg11 harg11 arg12 harg12 arg13 harg13 arg14 harg14 arg15 harg15 arg16 harg16 (kernelRun.sl.r_1 arg8 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) (constant S64x256 .f32 0x00000000#32) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) X6 (View.writes arg12.view (Elt Ideal) f12 (scoreL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)) f13 _ le_rfl
  rw [prodL, pbL, hL, View.readCov_cons_toLoadRect, hw, trips3]

end

end Cert.Proof.KernelIdeal

end
-- ==== Proof.Softmax.lean ====
/- The attention of one query, over the extended reals: the largest score, the exponentials, their sum, the clipped codes and their
   products with the values; and the same computed from scores without the query's scale, by powers of two, eight binary places up. -/
module

public import Idealize.ShloMosaic.Lib.Pointwise
public import Idealize.ShloMosaic.Lib.IdealHost

@[expose] public section

noncomputable section

namespace Cert.Proof.Attn

open Idealize.ShloMosaic

/-- The number of keys. -/
abbrev Keys := Fin 32768

/-- Clipping at 448, the largest code. -/
def clip (w : EReal) : EReal := min (Ideal.ofBits .f32 0x43E00000#32) (max (Ideal.ofBits .f32 0xC3E00000#32) w)

/-- The scores of the query at position `s` and of scale `c` against the keys: the products of the codes times both scales, and minus
    infinity for the keys that come after the query. -/
def scores (q : Fin 64 → EReal) (c : EReal) (k : Keys → Fin 64 → EReal) (ks : Keys → EReal) (s : ℕ) (r : Keys) : EReal :=
  if r.val ≤ s then (∑ d, q d * k r d) * (c * Ideal.ofBits .f32 0x3E000000#32) * ks r else ⊥

/-- The largest score. -/
def top (s : Keys → EReal) : EReal := Finset.univ.sup s

/-- The exponential of a score below the largest. -/
def expo (s : Keys → EReal) (r : Keys) : EReal := Ideal.exp (s r - top s)

/-- Their sum. -/
def total (s : Keys → EReal) : EReal := ∑ r, expo s r

/-- One coordinate of the attention: the codes of the exponentials times 256, against the values, scaled back. -/
def attend (s v : Keys → EReal) (vs : EReal) : EReal :=
  Ideal.div ((∑ r, clip (expo s r * Ideal.ofBits .f32 0x43800000#32) * v r) * (Ideal.ofBits .f32 0x3B800000#32 * vs)) (total s)

/-- The log of the row's sum, less the log of the number of keys that the query sees. -/
def stat (s : Keys → EReal) (n : EReal) : EReal := top s + Ideal.log (total s) - Ideal.log n

theorem ofBits_256 : Ideal.ofBits .f32 0x43800000#32 = ((256 : ℝ) : EReal) := by
  simp [Ideal.ofBits, Ideal.ieee, -EReal.coe_mul]; norm_num

theorem ofBits_inv256 : Ideal.ofBits .f32 0x3B800000#32 = ((1 / 256 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul]; norm_num

theorem clip_zero : clip 0 = 0 := by
  unfold clip
  rw [ofBits_448, ofBits_neg448, ← EReal.coe_zero, max_eq_right (EReal.coe_le_coe_iff.2 (by norm_num)), min_eq_right (EReal.coe_le_coe_iff.2 (by norm_num))]

theorem exp_nonneg (x : EReal) : 0 ≤ Ideal.exp x := by
  induction x using EReal.rec with
  | bot => simp
  | top => simp
  | coe r => simpa using Real.exp_nonneg r

theorem expo_nonneg (s : Keys → EReal) (r : Keys) : 0 ≤ expo s r := exp_nonneg _

/-- A sum of terms that are not negative, times a factor. -/
theorem sum_mul_of_nonneg {ι : Type} (t : Finset ι) (f : ι → EReal) (hf : ∀ r, 0 ≤ f r) (a : EReal) : (∑ r ∈ t, f r * a) = (∑ r ∈ t, f r) * a := by
  classical
  induction t using Finset.induction_on with
  | empty => simp
  | insert x t hx ih =>
    rw [Finset.sum_insert hx, Finset.sum_insert hx, ih, EReal.right_distrib_of_nonneg (hf x) (Finset.sum_nonneg fun r _ => hf r)]

/-- The power of two of a difference of scores in binary places, eight places up, is 256 times the exponential of the difference. -/
theorem exp2_shift (a b : EReal) :
    Ideal.exp2 (a * ((Real.log 2)⁻¹ : ℝ) - (b * ((Real.log 2)⁻¹ : ℝ) - ((8 : ℝ) : EReal))) = Ideal.exp (a - b) * ((256 : ℝ) : EReal) := by
  have hk : (0 : ℝ) < (Real.log 2)⁻¹ := inv_pos.2 (Real.log_pos one_lt_two)
  have h256 : (⊤ : EReal) * ((256 : ℝ) : EReal) = ⊤ := EReal.top_mul_coe_of_pos (by norm_num)
  induction a using EReal.rec with
  | bot =>
    rw [EReal.bot_mul_coe_of_pos hk]
    simp [sub_eq_add_neg]
  | top =>
    rw [EReal.top_mul_coe_of_pos hk]
    induction b using EReal.rec with
    | bot => rw [EReal.bot_mul_coe_of_pos hk]; simp [sub_eq_add_neg, h256]
    | top => rw [EReal.top_mul_coe_of_pos hk]; simp [sub_eq_add_neg]
    | coe b =>
      rw [← EReal.coe_mul, ← EReal.coe_sub, EReal.top_sub_coe, EReal.top_sub_coe, Ideal.exp2_top, Ideal.exp_top, h256]
  | coe a =>
    induction b using EReal.rec with
    | bot => rw [EReal.bot_mul_coe_of_pos hk]; simp [sub_eq_add_neg, h256, ← EReal.coe_mul]
    | top => rw [EReal.top_mul_coe_of_pos hk]; simp [sub_eq_add_neg, ← EReal.coe_mul]
    | coe b =>
      rw [← EReal.coe_mul, ← EReal.coe_mul, ← EReal.coe_sub, ← EReal.coe_sub, ← EReal.coe_sub, Ideal.exp2_coe, Ideal.exp_coe, ← EReal.coe_mul]
      congr 1
      have h2 : Real.log 2 ≠ 0 := (Real.log_pos one_lt_two).ne'
      have e : a * (Real.log 2)⁻¹ - (b * (Real.log 2)⁻¹ - 8) = (a - b) * (Real.log 2)⁻¹ + 8 := by ring
      rw [Real.rpow_eq_pow, e, Real.rpow_add two_pos, Real.rpow_def_of_pos two_pos, mul_comm (Real.log 2), mul_assoc, inv_mul_cancel₀ h2, mul_one]
      norm_num

section
variable (S : Keys → EReal) (q : EReal) (hq : 0 < q) (N : ℕ) (hN : 0 < N) (hN' : N ≤ 32768)
  (hS : ∀ r : Keys, N ≤ r.val → S r = ⊥) (M : EReal) (hM : ∀ b, M ≤ b ↔ ∀ r : Keys, r.val < N → S r ≤ b)
include hq hN hN' hS hM

/-- The largest score is the largest unscaled one, times the scale. -/
theorem top_scaled : M * q = top (fun r => S r * q) := by
  have hle : ∀ r, S r ≤ M := fun r => by
    by_cases h : r.val < N
    · exact (hM M).1 le_rfl r h
    · rw [hS r (not_lt.1 h)]; exact bot_le
  have hsup : M = Finset.univ.sup S := le_antisymm ((hM _).2 fun r _ => Finset.le_sup (Finset.mem_univ r)) (Finset.sup_le fun r _ => hle r)
  obtain ⟨r, _, hr⟩ := Finset.exists_mem_eq_sup Finset.univ ⟨(0 : Keys), Finset.mem_univ _⟩ S
  refine le_antisymm ?_ (Finset.sup_le fun r _ => mul_le_mul_of_nonneg_right (hle r) hq.le)
  rw [hsup, hr]
  exact Finset.le_sup (f := fun r => S r * q) (Finset.mem_univ r)

/-- The weight of a key. -/
def weight (S : Keys → EReal) (c M : EReal) (n : ℕ) : EReal :=
  if h : n < 32768 then Ideal.exp2 (S ⟨n, h⟩ * c - (M * c - Ideal.ofBits .f32 0x41000000#32)) else 0

theorem weight_eq (r : Keys) : weight S (q * ((Real.log 2)⁻¹ : ℝ)) M r.val = expo (fun r => S r * q) r * ((256 : ℝ) : EReal) := by
  unfold weight expo
  rw [dif_pos r.isLt, ← top_scaled S q hq N hN hN' hS M hM, ofBits_8, ← mul_assoc, ← mul_assoc, exp2_shift]

theorem expo_masked (r : Keys) (h : N ≤ r.val) : expo (fun r => S r * q) r = 0 := by
  unfold expo
  beta_reduce
  rw [hS r h, EReal.bot_mul_of_pos hq, EReal.bot_sub, Ideal.exp_bot]

/-- The sum over the keys up to the masked chunk's end is the sum over all the keys. -/
theorem sum_range_eq (f : Keys → EReal) (g : ℕ → EReal) (hg : ∀ r : Keys, g r.val = f r) (hf : ∀ r : Keys, N ≤ r.val → f r = 0) :
    ∑ n ∈ Finset.range N, g n = ∑ r, f r := by
  have h1 : ∑ n ∈ Finset.range N, g n = ∑ n ∈ Finset.range 32768, g n := by
    refine Finset.sum_subset (Finset.range_subset_range.2 hN') fun n hn hn' => ?_
    have hlt := Finset.mem_range.1 hn
    rw [hg ⟨n, hlt⟩]
    exact hf _ (not_lt.1 fun h => hn' (Finset.mem_range.2 h))
  rw [h1, ← Fin.sum_univ_eq_sum_range (fun n => g n) 32768]
  exact Finset.sum_congr rfl fun r _ => hg r

theorem total_eq : (∑ n ∈ Finset.range N, weight S (q * ((Real.log 2)⁻¹ : ℝ)) M n) * Ideal.ofBits .f32 0x3B800000#32 = total (fun r => S r * q) := by
  rw [sum_range_eq S q hq N hN hN' hS M hM (fun r => expo (fun r => S r * q) r * ((256 : ℝ) : EReal)) _ (weight_eq S q hq N hN hN' hS M hM)
    (fun r h => by rw [expo_masked S q hq N hN hN' hS M hM r h, zero_mul]), sum_mul_of_nonneg _ _ (expo_nonneg _), mul_assoc, ofBits_inv256, ← EReal.coe_mul]
  norm_num [total]

theorem prod_eq (v : Keys → EReal) (v' : ℕ → EReal) (hv : ∀ r : Keys, v' r.val = v r) :
    ∑ n ∈ Finset.range N, v' n * clip (weight S (q * ((Real.log 2)⁻¹ : ℝ)) M n)
      = ∑ r, clip (expo (fun r => S r * q) r * Ideal.ofBits .f32 0x43800000#32) * v r :=
  sum_range_eq S q hq N hN hN' hS M hM _ _ (fun r => by rw [hv, weight_eq S q hq N hN hN' hS M hM, ofBits_256, mul_comm])
    (fun r h => by rw [expo_masked S q hq N hN hN' hS M hM r h, zero_mul, clip_zero, zero_mul])

end

/-- Sums over eight interleaved rows are the sum over all of them. -/
theorem sum_interleaved (f : ℕ → EReal) (K : ℕ) : ∑ g : Fin 8, ∑ n ∈ Finset.range K, f (8 * n + g.val) = ∑ r ∈ Finset.range (8 * K), f r := by
  rw [Finset.sum_comm]
  induction K with
  | zero => simp
  | succ K ih =>
    rw [Finset.sum_range_succ, ih, show 8 * (K + 1) = 8 * K + 8 from rfl, Finset.sum_range_add, Fin.sum_univ_eq_sum_range (fun g => f (8 * K + g)) 8]

/-- A sum over 128 lanes that is zero outside one half is the sum over that half. -/
theorem sum_half (f : Fin 128 → EReal) (g : Fin 64 → EReal) (kv : Fin 2) :
    ∑ d : Fin 128, f d * (if d.val / 64 = kv.val then g ⟨d.val % 64, by omega⟩ else 0) = ∑ d : Fin 64, g d * f ⟨64 * kv.val + d.val, by omega⟩ := by
  rw [← (finProdFinEquiv (m := 2) (n := 64)).sum_comp, Fintype.sum_prod_type, Fintype.sum_eq_single kv]
  · refine Finset.sum_congr rfl fun d _ => ?_
    have e : (finProdFinEquiv (kv, d)).val = d.val + 64 * kv.val := rfl
    rw [if_pos (by rw [e]; omega), mul_comm]
    exact congrArg₂ (· * ·) (congrArg g (Fin.ext (by show (d.val + 64 * kv.val) % 64 = d.val; omega))) (congrArg f (Fin.ext (by show d.val + 64 * kv.val = 64 * kv.val + d.val; omega)))
  · intro x hx
    refine Finset.sum_eq_zero fun d _ => ?_
    have e : (finProdFinEquiv (x, d)).val = d.val + 64 * x.val := rfl
    have hx' : x.val ≠ kv.val := fun h => hx (Fin.ext h)
    rw [if_neg (by rw [e]; omega), mul_zero]

end Cert.Proof.Attn

end
-- ==== Proof.Scalars.lean ====
/- The operands of one block of queries over the extended reals: the queries of one key and value head, padded with zeros for the
   other, their scales, and what is made of the sums and products at the end. -/
module

public import proofs.«01_k».proof.Proof.TileVals
public import proofs.«01_k».proof.Proof.Softmax

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

/-- The column of query `a` of the pair's head `h`. -/
def col (h : Fin 2) (a : Fin 128) : Fin 256 := ⟨128 * h.val + a.val, by omega⟩

/-- The row of coordinate `d` of head `h` of a pair. -/
def lane (h : Fin 2) (d : Fin 64) : Fin 128 := ⟨64 * h.val + d.val, by omega⟩

theorem half_col (h : Fin 2) (a : Fin 128) : half (col h a) = a := Fin.ext (by show (128 * h.val + a.val) % 128 = a.val; omega)

section
variable (i : grid0.Coords) (arg7 : Memref sig .tc .vmem S1x128x128 .fp8e4m3) (arg8 : Memref sig .tc .vmem S1x1x2x128 .f32)
  (X7 : BufTy.Contents (Elt Ideal) arg7.view.ty) (X8 : BufTy.Contents (Elt Ideal) arg8.view.ty)

theorem v22_apply (d : Fin 64) (h : Fin 2) (a : Fin 128) :
    kernelRun.sl.v22 (F := Ideal) arg7 X7 (ix2 d (col h a)) = arg7.view.read (Elt Ideal) X7 (ix3 0 (lane h d) a) := by
  unfold kernelRun.sl.v22 col lane
  match h with
  | 0 =>
    pointwise [kernelRun.sl.v19, kernelRun.sl.v21, View.readAt_apply]
  | 1 =>
    pointwise [kernelRun.sl.v19, kernelRun.sl.v21, View.readAt_apply]

theorem v30_apply (d : Fin 128) (j : Fin 256) :
    kernelRun.sl.v30 (F := Ideal) i arg7 X7 (ix2 d j)
      = if d.val / 64 = (i 1).val then kernelRun.sl.v22 (F := Ideal) arg7 X7 (ix2 ⟨d.val % 64, by omega⟩ j) else 0 := by
  unfold kernelRun.sl.v30 kernelRun.sl.v29 kernelRun.sl.v24
  have hi : (i 1).val = 0 ∨ (i 1).val = 1 := by have : (i 1).val < 2 := (i 1).isLt; omega
  rcases hi with hi | hi <;> rw [hi]
  · pointwise [kernelRun.sl.v26, kernelRun.sl.v25, kernelRun.sl.v23, kernelRun.sl.cst]
    by_cases hd : d.val < 64
    · rw [dif_pos hd, if_pos (by omega)]
      congr 2
      exact Fin.ext (by dsimp only; omega)
    · rw [dif_neg hd, if_neg (by omega)]
      simp [Ideal.ofBits, Ideal.e4m3fn, Ideal.ieee]
  · pointwise [kernelRun.sl.v28, kernelRun.sl.v27, kernelRun.sl.v23, kernelRun.sl.cst]
    show (if h : d.val < 64 then _ else _) = _
    by_cases hd : d.val < 64
    · rw [dif_pos hd, if_neg (by omega)]
      simp [Ideal.ofBits, Ideal.e4m3fn, Ideal.ieee]
    · refine (dif_neg hd).trans (Eq.trans ?_ (if_pos (by omega)).symm)
      exact congrArg (fun x => kernelRun.sl.v22 (F := Ideal) arg7 X7 (ix2 x j)) (Fin.ext (by show d.val - 64 = d.val % 64; omega))

theorem r_apply (h : Fin 2) (a : Fin 128) :
    kernelRun.sl.r (F := Ideal) arg8 X8 (ix2 0 (col h a)) = arg8.view.read (Elt Ideal) X8 (ix4 0 0 h a) * Ideal.ofBits .f32 0x3E000000#32 := by
  unfold kernelRun.sl.r kernelRun.sl.v32 col
  match h with
  | 0 =>
    pointwise [k0_pay192, View.readAt_apply]
  | 1 =>
    pointwise [k0_pay192, View.readAt_apply]

theorem r_1_apply (j : Fin 256) :
    kernelRun.sl.r_1 (F := Ideal) arg8 X8 (ix2 0 j) = kernelRun.sl.r (F := Ideal) arg8 X8 (ix2 0 j) * (((Real.log 2)⁻¹ : ℝ) : EReal) := by
  unfold kernelRun.sl.r_1 kernelRun.sl.r
  pointwise [k0_pay193]
  rfl
end

/-- A small number as a machine integer, read back. -/
theorem toInt_ofNat (n : ℕ) (h : n < 2147483648) : (BitVec.ofNat 32 n).toInt = (n : ℤ) := by
  rw [BitVec.toInt_eq_toNat_cond, BitVec.toNat_ofNat]
  omega

/-- The number of keys that query `a` of the block sees, as the kernel counts it. -/
theorem seen_eq (n a : ℕ) (h : n + a + 1 < 2147483648) : (((BitVec.ofNat 32 n + BitVec.ofNat 32 a + 1#32).toInt : ℝ) : EReal) = (((n + a + 1 : ℕ) : ℝ) : EReal) := by
  rw [show (1#32 : BitVec 32) = BitVec.ofNat 32 1 from rfl, ← BitVec.ofNat_add, ← BitVec.ofNat_add, toInt_ofNat _ h]
  norm_cast

theorem pay264_apply (w : Vec Ideal S8x256 .f32) (j : Fin 256) :
    k0_pay264 w (ix2 0 j) = (∑ g : Fin 8, w (ix2 g j)) * Ideal.ofBits .f32 0x3B800000#32 := by
  pointwise [k0_pay264]

theorem pay265_apply (l : FVec Ideal S1x256 .f32) (vs : EReal) (w : Vec Ideal S64x256 .f32) (h : Fin 2) (d : Fin 64) (a : Fin 128) :
    k0_pay265 l vs w (ix3 0 a (lane h d)) = Ideal.div (w (ix2 d (col h a)) * (vs * Ideal.ofBits .f32 0x3B800000#32)) (l (ix2 0 (col h a))) := by
  unfold col lane
  match h with
  | 0 =>
    pointwise [k0_pay265]
  | 1 =>
    pointwise [k0_pay265]

theorem pay266_apply (v0 : BitVec 32) (q m l : FVec Ideal S1x256 .f32) (h : Fin 2) (a : Fin 128) :
    k0_pay1 (k0_pay266 v0 q m l) (ix4 0 0 h a)
      = m (ix2 0 (col h a)) * q (ix2 0 (col h a)) + Ideal.log (l (ix2 0 (col h a))) - Ideal.log (((v0 + BitVec.ofNat 32 a.val + 1#32).toInt : ℝ) : EReal) := by
  unfold col
  match h with
  | 0 =>
    pointwise [k0_pay1, k0_pay266]
    rw [show IntOp.andi (BitVec.ofNat 32 a.val) 127#32 = BitVec.ofNat 32 a.val from (and127 ⟨a.val, by omega⟩).trans (by rw [show (⟨a.val, by omega⟩ : Fin 256).val % 128 = a.val from Nat.mod_eq_of_lt a.isLt])]
    rfl
  | 1 =>
    pointwise [k0_pay1, k0_pay266]
    rw [show IntOp.andi (BitVec.ofNat 32 (128 + a.val)) 127#32 = BitVec.ofNat 32 a.val from (and127 ⟨128 + a.val, by omega⟩).trans (by rw [show (⟨128 + a.val, by omega⟩ : Fin 256).val % 128 = a.val from by show (128 + a.val) % 128 = a.val; omega])]
    rfl

end Cert.Proof.KernelIdeal

end
-- ==== Proof.Block.lean ====
/- What one block of the kernel computes, over the extended reals: the attention of its queries, and the log of their sums. -/
module

public import proofs.«01_k».proof.Proof.Chunks
public import proofs.«01_k».proof.Proof.Scalars

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

open Cert.Proof.Attn (Keys scores attend stat total)

section
variable (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole)
  (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (f12 : BufTy.Contents (Elt Ideal) arg12.view.ty) (f13 : BufTy.Contents (Elt Ideal) arg13.view.ty)
  (h : Fin 2) (a : Fin 128) (kv : Fin 2) (hkv : (i 1).val = kv.val)
  (q : Fin 64 → EReal) (c' : EReal) (k : Keys → Fin 64 → EReal) (ks : Keys → EReal) (hc : 0 < c')
  (hq : ∀ d, arg7.view.read (Elt Ideal) X7 (ix3 0 (lane h d) a) = q d)
  (hc' : arg8.view.read (Elt Ideal) X8 (ix4 0 0 h a) = c')
  (hk : ∀ r d, arg4.view.read (Elt Ideal) X4 (ix3 0 r (lane kv d)) = k r d)
  (hks : ∀ r, arg5.view.read (Elt Ideal) X5 (ix4 0 0 r a) = ks r)

/-- The kernel's scores of the column, without the query's scale. -/
abbrev sc (r : Keys) : EReal := score i arg4 arg5 (kernelRun.sl.v30 i arg7 X7) X4 X5 r (col h a)

/-- Its largest score. -/
abbrev mx : EReal := k0_pay257 (kernelRun.sl.v675 (F := Ideal) 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) (ix2 0 (col h a))

/-- The last chunk's end. -/
abbrev lim (i : grid0.Coords) : ℕ := 1024 * ((i 2).val / 8 + 1)

include hkv hc hq hc' hk hks in
theorem sc_scaled (r : Keys) :
    sc i arg4 arg5 arg7 X4 X5 X7 h a r * (c' * Ideal.ofBits .f32 0x3E000000#32) = scores q c' k ks (128 * (i 2).val + a.val) r := by
  have ha : (col h a).val % 128 = a.val := by show (128 * h.val + a.val) % 128 = a.val; omega
  unfold sc score scores
  rw [ha, half_col]
  by_cases hr : r.val ≤ 128 * (i 2).val + a.val
  · rw [if_pos hr, if_pos hr, hks]
    have e : (∑ d : Fin 128, arg4.view.read (Elt Ideal) X4 (ix3 0 r d) * kernelRun.sl.v30 i arg7 X7 (ix2 d (col h a))) = ∑ d, q d * k r d := by
      simp only [v30_apply, hkv]
      rw [Attn.sum_half (fun d => arg4.view.read (Elt Ideal) X4 (ix3 0 r d)) (fun d => kernelRun.sl.v22 (F := Ideal) arg7 X7 (ix2 d (col h a))) kv]
      refine Finset.sum_congr rfl fun d _ => ?_
      rw [v22_apply, hq]
      exact congrArg (q d * ·) (hk r d)
    rw [e, mul_assoc, mul_comm (ks r), ← mul_assoc]
  · rw [if_neg hr, if_neg hr]
    refine EReal.bot_mul_of_pos (EReal.mul_pos hc ?_)
    rw [Attn.ofBits_eighth]
    exact EReal.coe_pos.2 (by norm_num)

theorem sc_masked (r : Keys) (hr : lim i ≤ r.val) : sc i arg4 arg5 arg7 X4 X5 X7 h a r = ⊥ := by
  have ha : (col h a).val % 128 = a.val := by show (128 * h.val + a.val) % 128 = a.val; omega
  unfold sc score
  rw [ha, if_neg (by unfold lim at hr; omega)]

theorem mx_le (b : EReal) : mx 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 h a ≤ b ↔ ∀ r : Keys, r.val < lim i → sc i arg4 arg5 arg7 X4 X5 X7 h a r ≤ b := by
  unfold mx
  rw [maxL_eq, shapeCast_self, pay257_le]
  constructor
  · intro H r hr
    exact (maxL_le 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 ⟨r.val % 8, by omega⟩ (col h a) b).1 (H _) r hr rfl
  · intro H g
    exact (maxL_le 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 g (col h a) b).2 fun r hr _ => H r hr

include hc' in
theorem weight_col (n : ℕ) (hn : n < lim i) :
    weight arg12 (kernelRun.sl.r_1 arg8 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) (View.writes arg12.view (Elt Ideal) f12 (scoreL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)) n (col h a)
      = Attn.weight (sc i arg4 arg5 arg7 X4 X5 X7 h a) (c' * Ideal.ofBits .f32 0x3E000000#32 * ((Real.log 2)⁻¹ : ℝ)) (mx 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 h a) n := by
  unfold weight Attn.weight
  by_cases h' : n < 32768
  · rw [dif_pos h', dif_pos h', r_1_apply, r_apply, hc', scores_read _ _ _ _ _ _ _ _ _ _ _ _ _ _ _ _ _ _ _ _ _ _ _ _ _ _ _ _ _ _ _ _ _ _ _ ⟨n, h'⟩ (col h a) hn]
    rfl
  · rw [dif_neg h', dif_neg h']

theorem lim_le (i : grid0.Coords) : lim i ≤ 32768 := by
  have hi : (i 2).val < 256 := (i 2).isLt
  unfold lim
  omega

theorem scale_pos (hc : 0 < c') : 0 < c' * Ideal.ofBits .f32 0x3E000000#32 := by
  refine EReal.mul_pos hc ?_
  rw [Attn.ofBits_eighth]
  exact EReal.coe_pos.2 (by norm_num)

include hkv hc hq hc' hk hks

/-- The column's sum. -/
theorem total_col : k0_pay264 (sumL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13) (ix2 0 (col h a)) = total (scores q c' k ks (128 * (i 2).val + a.val)) := by
  rw [pay264_apply]
  simp only [sumL_apply]
  rw [Attn.sum_interleaved (fun n => weight arg12 (kernelRun.sl.r_1 arg8 X8) (kernelRun.sl.v675 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) (View.writes arg12.view (Elt Ideal) f12 (scoreL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8)) n (col h a)),
    show 8 * (128 * ((i 2).val / 8 + 1)) = lim i by unfold lim; omega,
    Finset.sum_congr rfl fun n hn => weight_col 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 f12 h a c' hc' n (Finset.mem_range.1 hn),
    Attn.total_eq _ _ (scale_pos c' hc) (lim i) (by unfold lim; omega) (lim_le i) (sc_masked i arg4 arg5 arg7 X4 X5 X7 h a) _ (mx_le 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 h a)]
  exact congrArg total (funext (sc_scaled i arg4 arg5 arg7 arg8 X4 X5 X7 X8 h a kv hkv q c' k ks hc hq hc' hk hks))

/-- Its largest score, scaled. -/
theorem top_col : mx 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 h a * (c' * Ideal.ofBits .f32 0x3E000000#32) = Attn.top (scores q c' k ks (128 * (i 2).val + a.val)) := by
  rw [Attn.top_scaled _ _ (scale_pos c' hc) (lim i) (by unfold lim; omega) (lim_le i) (sc_masked i arg4 arg5 arg7 X4 X5 X7 h a) _ (mx_le 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 h a)]
  exact congrArg Attn.top (funext (sc_scaled i arg4 arg5 arg7 arg8 X4 X5 X7 X8 h a kv hkv q c' k ks hc hq hc' hk hks))

/-- The block of the attention's results holds the attention, -/
theorem out_col (d : Fin 64) (v : Keys → EReal) (vs : EReal) (hv : ∀ r, arg6.view.read (Elt Ideal) X6 (ix3 0 d r) = v r) (hvs : kernelRun.sl.r_4 (F := Ideal) arg9 X9 = vs) :
    k0_pay265 (k0_pay264 (sumL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13)) (kernelRun.sl.r_4 arg9 X9) (prodL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13) (ix3 0 a (lane h d))
      = attend (scores q c' k ks (128 * (i 2).val + a.val)) v vs := by
  rw [pay265_apply, total_col 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13 h a kv hkv q c' k ks hc hq hc' hk hks, prodL_apply, hvs, attend, mul_comm vs]
  refine congrArg (fun x : EReal => Ideal.div (x * (Ideal.ofBits .f32 0x3B800000#32 * vs)) (total (scores q c' k ks (128 * (i 2).val + a.val)))) ?_
  refine (Finset.sum_congr rfl fun n hn => congrArg (fun w => value arg6 X6 n d * code w) (weight_col 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 f12 h a c' hc' n (Finset.mem_range.1 hn))).trans ?_
  refine (Attn.prod_eq _ _ (scale_pos c' hc) (lim i) (by unfold lim; omega) (lim_le i) (sc_masked i arg4 arg5 arg7 X4 X5 X7 h a) _ (mx_le 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 h a) v (fun n => value arg6 X6 n d) fun r => ?_).trans ?_
  · unfold value
    rw [dif_pos r.isLt]
    exact hv r
  · rw [show (fun r => sc i arg4 arg5 arg7 X4 X5 X7 h a r * (c' * Ideal.ofBits .f32 0x3E000000#32)) = scores q c' k ks (128 * (i 2).val + a.val) from
      funext (sc_scaled i arg4 arg5 arg7 arg8 X4 X5 X7 X8 h a kv hkv q c' k ks hc hq hc' hk hks)]

/-- and the block of the statistics the log of the sums. -/
theorem stat_col :
    k0_pay1 (k0_pay266 (kernelRun.sl.v0 i) (kernelRun.sl.r arg8 X8) (k0_pay257 (shapeCast S8x256 (maxL 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8) shapeCasts_S8x256_S8x256)) (k0_pay264 (sumL 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13))) (ix4 0 0 h a)
      = stat (scores q c' k ks (128 * (i 2).val + a.val)) (((128 * (i 2).val + a.val + 1 : ℕ) : ℝ) : EReal) := by
  have hi : (i 2).val < 256 := (i 2).isLt
  rw [pay266_apply, total_col 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13 h a kv hkv q c' k ks hc hq hc' hk hks, ← maxL_eq, v0_eq, seen_eq _ _ (by omega), r_apply, hc',
    top_col 𝒱 c bd i arg4 harg4 arg5 harg5 arg6 harg6 arg7 harg7 arg8 harg8 arg9 harg9 arg10 harg10 arg11 harg11 arg12 harg12 arg13 harg13 arg14 harg14 arg15 harg15 arg16 harg16 X4 X5 X7 X8 h a kv hkv q c' k ks hc hq hc' hk hks, stat]
end

end Cert.Proof.KernelIdeal

end
-- ==== Proof.KernelHost.lean ====
/- The operands that the host lays out for the kernel, read back at the arguments. -/
module

public import Idealize.ShloMosaic.Lib.Pointwise
public import Idealize.ShloMosaic.Lib.Claim
public import proofs.«01_k».proof.Proof.Gen.KernelIdeal.Frame

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The queries, transposed. -/
theorem V_v0 (b : Fin 2) (x : Fin 512) (s : Fin 32768) :
    V m c main_v0 (ix3 b x s : S2x512x32768.Idx) = m ((c.tc : Thread nD τ).loc main_arg0) (ix3 b s x : S2x32768x512.Idx) := by
  entry_read
  pointwise []

/-- Their scales, by pairs of heads. -/
theorem V_v2 (b : Fin 2) (p : Fin 4) (h : Fin 2) (s : Fin 32768) :
    V m c main_v2 (ix4 b p h s : S2x4x2x32768.Idx) = m ((c.tc : Thread nD τ).loc main_arg1) (ix3 b s ⟨2 * p.val + h.val, by omega⟩ : S2x32768x8.Idx) := by
  entry_read
  pointwise []
  exact congrArg (fun x : Fin 8 => m ((c.tc : Thread nD τ).loc main_arg1) (ix3 b s x : S2x32768x8.Idx)) (Fin.ext (by show p.val * 2 + h.val = 2 * p.val + h.val; omega))

/-- The keys' scales, the same in every lane. -/
theorem V_v5 (b kv : Fin 2) (r : Fin 32768) (l : Fin 128) :
    V m c main_v5 (ix4 b kv r l : S2x2x32768x128.Idx) = m ((c.tc : Thread nD τ).loc main_arg3) (ix3 b r kv : S2x32768x2.Idx) := by
  entry_read
  pointwise []

/-- The values, transposed. -/
theorem V_v6 (b : Fin 2) (x : Fin 128) (r : Fin 32768) :
    V m c main_v6 (ix3 b x r : S2x128x32768.Idx) = m ((c.tc : Thread nD τ).loc main_arg4) (ix3 b r x : S2x32768x128.Idx) := by
  entry_read
  pointwise []

/-- The values' scales, in a row. -/
theorem V_v7 (b kv : Fin 2) :
    V m c main_v7 (ix3 ⟨2 * b.val + kv.val, by omega⟩ 0 0 : S4x1x1.Idx) = m ((c.tc : Thread nD τ).loc main_arg5) (ix2 b kv : S2x2.Idx) := by
  entry_read
  pointwise []

end Cert.Proof.KernelIdeal

end
-- ==== Proof.Blocks.lean ====
/- The blocks of the operands at a grid point, read back at the arguments. -/
module

public import proofs.«01_k».proof.Proof.KernelHost

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

/-- The batch of a grid point, -/
def bat (t : Fin cfg0.N) : Fin 2 := ⟨(grid0.coords t 0).val, (grid0.coords t 0).isLt⟩
/-- its key and value head, -/
def grp (t : Fin cfg0.N) : Fin 2 := ⟨(grid0.coords t 1).val, (grid0.coords t 1).isLt⟩
/-- its block of queries, -/
def qbk (t : Fin cfg0.N) : Fin 256 := ⟨(grid0.coords t 2).val, (grid0.coords t 2).isLt⟩
/-- its pair of heads, -/
def prs (t : Fin cfg0.N) : Fin 4 := ⟨2 * (grid0.coords t 1).val + (grid0.coords t 3).val, by
  have h1 : (grid0.coords t 1).val < 2 := (grid0.coords t 1).isLt
  have h3 : (grid0.coords t 3).val < 2 := (grid0.coords t 3).isLt
  omega⟩
/-- and the position of query `a` of its block. -/
def pos (t : Fin cfg0.N) (a : Fin 128) : Fin 32768 := ⟨128 * (qbk t).val + a.val, by omega⟩

theorem toNat_small (n : ℕ) (h : n < 4294967296) : (BitVec.ofNat 32 n).toNat = n := by
  rw [BitVec.toNat_ofNat]; omega

theorem toNat_pair (x y : ℕ) (hx : x < 1000) (hy : y < 1000) : (Scalar.addi (Scalar.muli (BitVec.ofNat 32 x) 2#32) (BitVec.ofNat 32 y)).toNat = 2 * x + y := by
  show (BitVec.ofNat 32 x * BitVec.ofNat 32 2 + BitVec.ofNat 32 y).toNat = _
  rw [← BitVec.ofNat_mul, ← BitVec.ofNat_add, toNat_small _ (by omega)]
  omega

section
variable (t : Fin cfg0.N)

theorem c0 : (BitVec.ofNat 32 (grid0.coords t 0).val).toNat = (bat t).val := toNat_small _ (Nat.lt_trans (bat t).isLt (by norm_num))
theorem c1 : (BitVec.ofNat 32 (grid0.coords t 1).val).toNat = (grp t).val := toNat_small _ (Nat.lt_trans (grp t).isLt (by norm_num))
theorem c2 : (BitVec.ofNat 32 (grid0.coords t 2).val).toNat = (qbk t).val := toNat_small _ (Nat.lt_trans (qbk t).isLt (by norm_num))
theorem c13 : (Scalar.addi (Scalar.muli (BitVec.ofNat 32 (grid0.coords t 1).val) 2#32) (BitVec.ofNat 32 (grid0.coords t 3).val)).toNat = (prs t).val := by
  have h1 : (grid0.coords t 1).val < 2 := (grid0.coords t 1).isLt
  have h3 : (grid0.coords t 3).val < 2 := (grid0.coords t 3).isLt
  exact toNat_pair _ _ (by omega) (by omega)
theorem c01 : (Scalar.addi (Scalar.muli (BitVec.ofNat 32 (grid0.coords t 0).val) 2#32) (BitVec.ofNat 32 (grid0.coords t 1).val)).toNat = 2 * (bat t).val + (grp t).val := by
  have h1 : (grid0.coords t 0).val < 2 := (grid0.coords t 0).isLt
  have h3 : (grid0.coords t 1).val < 2 := (grid0.coords t 1).isLt
  exact toNat_pair _ _ (by omega) (by omega)

theorem ix_0 : win0_0.index t = ![(bat t).val, 0, 0] := by
  show ![(BitVec.ofNat 32 (grid0.coords t 0).val).toNat, _, _] = _
  rw [c0]; rfl
theorem ix_1 : win0_1.index t = ![(bat t).val, (grp t).val, 0, 0] := by
  show ![(BitVec.ofNat 32 (grid0.coords t 0).val).toNat, (BitVec.ofNat 32 (grid0.coords t 1).val).toNat, _, _] = _
  rw [c0, c1]; rfl
theorem ix_2 : win0_2.index t = ![(bat t).val, (grp t).val, 0] := by
  show ![(BitVec.ofNat 32 (grid0.coords t 0).val).toNat, (BitVec.ofNat 32 (grid0.coords t 1).val).toNat, _] = _
  rw [c0, c1]; rfl
theorem ix_3 : win0_3.index t = ![(bat t).val, (prs t).val, (qbk t).val] := by
  show ![(BitVec.ofNat 32 (grid0.coords t 0).val).toNat, (Scalar.addi (Scalar.muli (BitVec.ofNat 32 (grid0.coords t 1).val) 2#32) (BitVec.ofNat 32 (grid0.coords t 3).val)).toNat, (BitVec.ofNat 32 (grid0.coords t 2).val).toNat] = _
  rw [c0, c13, c2]
theorem ix_4 : win0_4.index t = ![(bat t).val, (prs t).val, 0, (qbk t).val] := by
  show ![(BitVec.ofNat 32 (grid0.coords t 0).val).toNat, (Scalar.addi (Scalar.muli (BitVec.ofNat 32 (grid0.coords t 1).val) 2#32) (BitVec.ofNat 32 (grid0.coords t 3).val)).toNat, _, (BitVec.ofNat 32 (grid0.coords t 2).val).toNat] = _
  rw [c0, c13, c2]; rfl
theorem ix_5 : win0_5.index t = ![2 * (bat t).val + (grp t).val, 0, 0] := by
  show ![(Scalar.addi (Scalar.muli (BitVec.ofNat 32 (grid0.coords t 0).val) 2#32) (BitVec.ofNat 32 (grid0.coords t 1).val)).toNat, _, _] = _
  rw [c01]; rfl
theorem ix_6 : win0_6.index t = ![(bat t).val, (qbk t).val, (prs t).val] := by
  show ![(BitVec.ofNat 32 (grid0.coords t 0).val).toNat, (BitVec.ofNat 32 (grid0.coords t 2).val).toNat, (Scalar.addi (Scalar.muli (BitVec.ofNat 32 (grid0.coords t 1).val) 2#32) (BitVec.ofNat 32 (grid0.coords t 3).val)).toNat] = _
  rw [c0, c13, c2]
theorem ix_7 : win0_7.index t = ![(bat t).val, (prs t).val, 0, (qbk t).val] := by
  show ![(BitVec.ofNat 32 (grid0.coords t 0).val).toNat, (Scalar.addi (Scalar.muli (BitVec.ofNat 32 (grid0.coords t 1).val) 2#32) (BitVec.ofNat 32 (grid0.coords t 3).val)).toNat, _, (BitVec.ofNat 32 (grid0.coords t 2).val).toNat] = _
  rw [c0, c13, c2]; rfl

variable (m : (ℓ : Loc nD τ sig) → Buf (Elt Ideal) ℓ) (c : Dev nD)

/-- Block of the keys. -/
theorem iblk_0 (r : Fin 32768) (x : Fin 128) :
    (iblk m c 0 t : Vec Ideal S1x32768x128 .fp8e4m3) (ix3 0 r x) = m ((c.tc : Thread nD τ).loc main_arg2) (ix3 (bat t) r x : S2x32768x128.Idx) := by
  unfold iblk
  rw [View.read_apply]
  refine Eq.trans ?_ (congrFun (V_main_arg2 m c) _)
  show V m c main_arg2 _ = V m c main_arg2 _
  refine congrArg (V m c main_arg2) (funext fun a => Fin.ext ?_)
  match a with
  | ⟨0, _⟩ => show win0_0.index t 0 * 1 + 1 * 0 = (bat t).val; rw [ix_0]; show (bat t).val * 1 + 1 * 0 = _; omega
  | ⟨1, _⟩ => show win0_0.index t 1 * 32768 + 1 * r.val = r.val; rw [ix_0]; show 0 * 32768 + 1 * r.val = _; omega
  | ⟨2, _⟩ => show win0_0.index t 2 * 128 + 1 * x.val = x.val; rw [ix_0]; show 0 * 128 + 1 * x.val = _; omega

/-- Block of their scales. -/
theorem iblk_1 (r : Fin 32768) (l : Fin 128) :
    (iblk m c 1 t : Vec Ideal S1x1x32768x128 .f32) (ix4 0 0 r l) = m ((c.tc : Thread nD τ).loc main_arg3) (ix3 (bat t) r (grp t) : S2x32768x2.Idx) := by
  unfold iblk
  rw [View.read_apply]
  refine Eq.trans ?_ (V_v5 m c (bat t) (grp t) r l)
  show V m c main_v5 _ = V m c main_v5 _
  refine congrArg (V m c main_v5) (funext fun a => Fin.ext ?_)
  match a with
  | ⟨0, _⟩ => show win0_1.index t 0 * 1 + 1 * 0 = (bat t).val; rw [ix_1]; show (bat t).val * 1 + 1 * 0 = _; omega
  | ⟨1, _⟩ => show win0_1.index t 1 * 1 + 1 * 0 = (grp t).val; rw [ix_1]; show (grp t).val * 1 + 1 * 0 = _; omega
  | ⟨2, _⟩ => show win0_1.index t 2 * 32768 + 1 * r.val = r.val; rw [ix_1]; show 0 * 32768 + 1 * r.val = _; omega
  | ⟨3, _⟩ => show win0_1.index t 3 * 128 + 1 * l.val = l.val; rw [ix_1]; show 0 * 128 + 1 * l.val = _; omega

/-- Block of the values. -/
theorem iblk_2 (d : Fin 64) (r : Fin 32768) :
    (iblk m c 2 t : Vec Ideal S1x64x32768 .fp8e4m3) (ix3 0 d r) = m ((c.tc : Thread nD τ).loc main_arg4) (ix3 (bat t) r ⟨64 * (grp t).val + d.val, by omega⟩ : S2x32768x128.Idx) := by
  unfold iblk
  rw [View.read_apply]
  refine Eq.trans ?_ (V_v6 m c (bat t) ⟨64 * (grp t).val + d.val, by omega⟩ r)
  show V m c main_v6 _ = V m c main_v6 _
  refine congrArg (V m c main_v6) (funext fun a => Fin.ext ?_)
  match a with
  | ⟨0, _⟩ => show win0_2.index t 0 * 1 + 1 * 0 = (bat t).val; rw [ix_2]; show (bat t).val * 1 + 1 * 0 = _; omega
  | ⟨1, _⟩ => show win0_2.index t 1 * 64 + 1 * d.val = 64 * (grp t).val + d.val; rw [ix_2]; show (grp t).val * 64 + 1 * d.val = _; omega
  | ⟨2, _⟩ => show win0_2.index t 2 * 32768 + 1 * r.val = r.val; rw [ix_2]; show 0 * 32768 + 1 * r.val = _; omega

/-- Block of the queries. -/
theorem iblk_3 (x a : Fin 128) :
    (iblk m c 3 t : Vec Ideal S1x128x128 .fp8e4m3) (ix3 0 x a) = m ((c.tc : Thread nD τ).loc main_arg0) (ix3 (bat t) (pos t a) ⟨128 * (prs t).val + x.val, by omega⟩ : S2x32768x512.Idx) := by
  unfold iblk
  rw [View.read_apply]
  refine Eq.trans ?_ (V_v0 m c (bat t) ⟨128 * (prs t).val + x.val, by omega⟩ (pos t a))
  show V m c main_v0 _ = V m c main_v0 _
  refine congrArg (V m c main_v0) (funext fun b => Fin.ext ?_)
  match b with
  | ⟨0, _⟩ => show win0_3.index t 0 * 1 + 1 * 0 = (bat t).val; rw [ix_3]; show (bat t).val * 1 + 1 * 0 = _; omega
  | ⟨1, _⟩ => show win0_3.index t 1 * 128 + 1 * x.val = 128 * (prs t).val + x.val; rw [ix_3]; show (prs t).val * 128 + 1 * x.val = _; omega
  | ⟨2, _⟩ => show win0_3.index t 2 * 128 + 1 * a.val = 128 * (qbk t).val + a.val; rw [ix_3]; show (qbk t).val * 128 + 1 * a.val = _; omega

/-- Block of their scales. -/
theorem iblk_4 (h : Fin 2) (a : Fin 128) :
    (iblk m c 4 t : Vec Ideal S1x1x2x128 .f32) (ix4 0 0 h a) = m ((c.tc : Thread nD τ).loc main_arg1) (ix3 (bat t) (pos t a) ⟨2 * (prs t).val + h.val, by omega⟩ : S2x32768x8.Idx) := by
  unfold iblk
  rw [View.read_apply]
  refine Eq.trans ?_ (V_v2 m c (bat t) (prs t) h (pos t a))
  show V m c main_v2 _ = V m c main_v2 _
  refine congrArg (V m c main_v2) (funext fun b => Fin.ext ?_)
  match b with
  | ⟨0, _⟩ => show win0_4.index t 0 * 1 + 1 * 0 = (bat t).val; rw [ix_4]; show (bat t).val * 1 + 1 * 0 = _; omega
  | ⟨1, _⟩ => show win0_4.index t 1 * 1 + 1 * 0 = (prs t).val; rw [ix_4]; show (prs t).val * 1 + 1 * 0 = _; omega
  | ⟨2, _⟩ => show win0_4.index t 2 * 2 + 1 * h.val = h.val; rw [ix_4]; show 0 * 2 + 1 * h.val = _; omega
  | ⟨3, _⟩ => show win0_4.index t 3 * 128 + 1 * a.val = 128 * (qbk t).val + a.val; rw [ix_4]; show (qbk t).val * 128 + 1 * a.val = _; omega

/-- Block of the values' scales. -/
theorem iblk_5 : (iblk m c 5 t : Vec Ideal S1x1x1 .f32) (ix3 0 0 0) = m ((c.tc : Thread nD τ).loc main_arg5) (ix2 (bat t) (grp t) : S2x2.Idx) := by
  unfold iblk
  rw [View.read_apply]
  refine Eq.trans ?_ (V_v7 m c (bat t) (grp t))
  show V m c main_v7 _ = V m c main_v7 _
  refine congrArg (V m c main_v7) (funext fun b => Fin.ext ?_)
  match b with
  | ⟨0, _⟩ => show win0_5.index t 0 * 1 + 1 * 0 = 2 * (bat t).val + (grp t).val; rw [ix_5]; show (2 * (bat t).val + (grp t).val) * 1 + 1 * 0 = _; omega
  | ⟨1, _⟩ => show win0_5.index t 1 * 1 + 1 * 0 = 0; rw [ix_5]; rfl
  | ⟨2, _⟩ => show win0_5.index t 2 * 1 + 1 * 0 = 0; rw [ix_5]; rfl

end

end Cert.Proof.KernelIdeal

end
-- ==== Proof.Spec.lean ====
/- What kernel and reference compute, of the arguments' arrays: causal attention of every head, and the logarithm of the mean weight of its row. -/
module

public import proofs.«01_k».proof.Proof.Softmax

@[expose] public section

noncomputable section

namespace Cert.Proof.Attn

open Idealize.ShloMosaic

section
variable (q : (⟨3, ![2, 32768, 512]⟩ : Shape).Idx → EReal) (qs : (⟨3, ![2, 32768, 8]⟩ : Shape).Idx → EReal)
  (k : (⟨3, ![2, 32768, 128]⟩ : Shape).Idx → EReal) (ks : (⟨3, ![2, 32768, 2]⟩ : Shape).Idx → EReal)
  (v : (⟨3, ![2, 32768, 128]⟩ : Shape).Idx → EReal) (vs : (⟨2, ![2, 2]⟩ : Shape).Idx → EReal)

/-- The key and value head that head `h` reads, -/
abbrev kvOf (h : Fin 8) : Fin 2 := ⟨h.val / 4, by omega⟩
/-- channel `d` of head `h` among all the channels of the queries, -/
abbrev chanOf (h : Fin 8) (d : Fin 64) : Fin 512 := ⟨64 * h.val + d.val, by omega⟩
/-- and that of its key and value head among the channels of keys and values. -/
abbrev kvChanOf (h : Fin 8) (d : Fin 64) : Fin 128 := ⟨64 * (h.val / 4) + d.val, by omega⟩

/-- The scores of query `s` of head `h` of batch `b`. -/
def headScores (b : Fin 2) (h : Fin 8) (s : Fin 32768) : Keys → EReal :=
  scores (fun d => q (ix3 b s (chanOf h d))) (qs (ix3 b s h)) (fun r d => k (ix3 b r (kvChanOf h d))) (fun r => ks (ix3 b r (kvOf h))) s.val

/-- Channel `d` of the attention of that query. -/
def headOut (b : Fin 2) (h : Fin 8) (s : Fin 32768) (d : Fin 64) : EReal :=
  attend (headScores q qs k ks b h s) (fun r => v (ix3 b r (kvChanOf h d))) (vs (ix2 b (kvOf h)))

/-- Its row's statistic. -/
def headStat (b : Fin 2) (h : Fin 8) (s : Fin 32768) : EReal :=
  stat (headScores q qs k ks b h s) (((s.val + 1 : ℕ) : ℝ) : EReal)

/-- The first result: batch, position, and the channels of the eight heads side by side. -/
def outArr : (⟨3, ![2, 32768, 512]⟩ : Shape).Idx → EReal := fun i =>
  headOut q qs k ks v vs (i 0) ⟨(i 2).val / 64, by have : (i 2).val < 512 := (i 2).isLt; omega⟩ (i 1) ⟨(i 2).val % 64, by omega⟩

/-- The second result: batch, pair of heads, head of the pair, position. -/
def statArr : (⟨4, ![2, 4, 2, 32768]⟩ : Shape).Idx → EReal := fun i =>
  headStat q qs k ks (i 0) ⟨2 * (i 1).val + (i 2).val, by have : (i 1).val < 4 := (i 1).isLt; have : (i 2).val < 2 := (i 2).isLt; omega⟩ (i 3)

theorem outArr_at (b : Fin 2) (s : Fin 32768) (x : Fin 512) (h : Fin 8) (d : Fin 64) (hx : x.val = 64 * h.val + d.val) :
    outArr q qs k ks v vs (ix3 b s x) = headOut q qs k ks v vs b h s d := by
  unfold outArr
  exact congrArg₂ (fun (y : Fin 8) (z : Fin 64) => headOut q qs k ks v vs b y s z) (Fin.ext (by show x.val / 64 = h.val; omega)) (Fin.ext (by show x.val % 64 = d.val; omega))

end

theorem scores_congr {q q' : Fin 64 → EReal} {c c' : EReal} {k k' : Keys → Fin 64 → EReal} {ks ks' : Keys → EReal} (s : ℕ)
    (hq : ∀ d, q d = q' d) (hc : c = c') (hk : ∀ r d, k r d = k' r d) (hs : ∀ r, ks r = ks' r) : scores q c k ks s = scores q' c' k' ks' s := by
  obtain rfl : q = q' := funext hq
  obtain rfl : k = k' := funext fun r => funext (hk r)
  obtain rfl : ks = ks' := funext hs
  rw [hc]

theorem attend_congr {s s' v v' : Keys → EReal} {x x' : EReal} (hs : s = s') (hv : ∀ r, v r = v' r) (hx : x = x') : attend s v x = attend s' v' x' := by
  obtain rfl : v = v' := funext hv
  rw [hs, hx]

end Cert.Proof.Attn

end
-- ==== Proof.Leaves.lean ====
/- What the body leaves in the results' buffers at a grid point: the blocks of the attention and of the statistics. -/
module

public import proofs.«01_k».proof.Proof.Block
public import proofs.«01_k».proof.Proof.Blocks
public import proofs.«01_k».proof.Proof.Masked
public import proofs.«01_k».proof.Proof.Run
public import proofs.«01_k».proof.Proof.Spec

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Cert.Proof.Attn (Keys scores attend stat total headScores headOut headStat outArr statArr scores_congr attend_congr)

theorem zeros3 : (![0, 0, 0] : Fin 3 → Nat) = fun _ => 0 := by
  funext a; match a with | ⟨0, _⟩ => rfl | ⟨1, _⟩ => rfl | ⟨2, _⟩ => rfl

theorem zeros4 : (![0, 0, 0, 0] : Fin 4 → Nat) = fun _ => 0 := by
  funext a; match a with | ⟨0, _⟩ => rfl | ⟨1, _⟩ => rfl | ⟨2, _⟩ => rfl | ⟨3, _⟩ => rfl

/-- A buffer written once and whole reads as what was written. -/
theorem read_whole3 (v : Memref sig .tc .vmem S1x128x128 .bf16) (f : BufTy.Contents (Elt Ideal) v.view.ty) (p : Vec Ideal S1x128x128 .bf16) :
    v.view.read (Elt Ideal) (v.view.writes (Elt Ideal) f [⟨Rect.unit ![0, 0, 0] S1x128x128.size inb_S1x128x128_S1x128x128_0_0_0, p⟩]) = p := by
  rw [View.read_writes_eq_canon _ _ _ (fun y => View.cover_of_tiled [⟨Rect.unit ![0, 0, 0] S1x128x128.size inb_S1x128x128_S1x128x128_0_0_0, p⟩] S1x128x128.size (by rfl) y)]
  exact View.canon_unit_zero zeros3 _ p

theorem read_whole4 (v : Memref sig .tc .vmem S1x1x2x128 .f32) (f : BufTy.Contents (Elt Ideal) v.view.ty) (p : Vec Ideal S1x1x2x128 .f32) :
    v.view.read (Elt Ideal) (v.view.writes (Elt Ideal) f [⟨Rect.unit ![0, 0, 0, 0] S1x1x2x128.size inb_S1x1x2x128_S1x1x2x128_0_0_0_0, p⟩]) = p := by
  rw [View.read_writes_eq_canon _ _ _ (fun y => View.cover_of_tiled [⟨Rect.unit ![0, 0, 0, 0] S1x1x2x128.size inb_S1x1x2x128_S1x1x2x128_0_0_0_0, p⟩] S1x1x2x128.size (by rfl) y)]
  exact View.canon_unit_zero zeros4 _ p

/-- The scalar of the values' scale is the block's element. -/
theorem r4_eq (arg9 : Memref sig .tc .smem S1x1x1 .f32) (X9 : BufTy.Contents (Elt Ideal) arg9.view.ty) :
    kernelRun.sl.r_4 (F := Ideal) arg9 X9 = arg9.view.read (Elt Ideal) X9 (ix3 0 0 0) := by
  unfold kernelRun.sl.r_4
  pointwise [View.readAt_apply]

section
variable (𝒱 : Variants) (c : Dev nD) (bd : Option 𝒱.V) (i : grid0.Coords) (arg4 : Memref sig .tc .vmem S1x32768x128 .fp8e4m3) (harg4 : arg4.IsWhole) (arg5 : Memref sig .tc .vmem S1x1x32768x128 .f32) (harg5 : arg5.IsWhole) (arg6 : Memref sig .tc .vmem S1x64x32768 .fp8e4m3) (harg6 : arg6.IsWhole) (arg7 : Memref sig .tc .vmem S1x128x128 .fp8e4m3) (harg7 : arg7.IsWhole) (arg8 : Memref sig .tc .vmem S1x1x2x128 .f32) (harg8 : arg8.IsWhole) (arg9 : Memref sig .tc .smem S1x1x1 .f32) (harg9 : arg9.IsWhole) (arg10 : Memref sig .tc .vmem S1x128x128 .bf16) (harg10 : arg10.IsWhole) (arg11 : Memref sig .tc .vmem S1x1x2x128 .f32) (harg11 : arg11.IsWhole) (arg12 : Memref sig .tc .vmem S32768x256 .f32) (harg12 : arg12.IsWhole) (arg13 : Memref sig .tc .vmem S1024x256 .fp8e4m3) (harg13 : arg13.IsWhole) (arg14 : Memref sig .tc .vmem S64x256 .f32) (harg14 : arg14.IsWhole) (arg15 : Memref sig .tc .vmem S8x256 .f32) (harg15 : arg15.IsWhole) (arg16 : Memref sig .tc .vmem S8x256 .f32) (harg16 : arg16.IsWhole)
  (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (f12 : BufTy.Contents (Elt Ideal) arg12.view.ty) (f13 : BufTy.Contents (Elt Ideal) arg13.view.ty)
  (h : Fin 2) (a : Fin 128) (kv : Fin 2) (hkv : (i 1).val = kv.val)
  (q : Fin 64 → EReal) (c' : EReal) (k : Keys → Fin 64 → EReal) (ks : Keys → EReal) (hc : 0 < c')
  (hq : ∀ d, arg7.view.read (Elt Ideal) X7 (ix3 0 (lane h d) a) = q d)
  (hc' : arg8.view.read (Elt Ideal) X8 (ix4 0 0 h a) = c')
  (hk : ∀ r d, arg4.view.read (Elt Ideal) X4 (ix3 0 r (lane kv d)) = k r d)
  (hks : ∀ r, arg5.view.read (Elt Ideal) X5 (ix4 0 0 r a) = ks r)

  (f10 : BufTy.Contents (Elt Ideal) arg10.view.ty) (f11 : BufTy.Contents (Elt Ideal) arg11.view.ty) (f14 : BufTy.Contents (Elt Ideal) arg14.view.ty) (f15 : BufTy.Contents (Elt Ideal) arg15.view.ty) (f16 : BufTy.Contents (Elt Ideal) arg16.view.ty)

include hkv hc hq hc' hk hks in
/-- The attention's buffer after the body, at a query and a channel, -/
theorem out_block (d : Fin 64) (v : Keys → EReal) (vs : EReal) (hv : ∀ r, arg6.view.read (Elt Ideal) X6 (ix3 0 d r) = v r) (hvs : arg9.view.read (Elt Ideal) X9 (ix3 0 0 0) = vs) :
    arg10.view.read (Elt Ideal) (arg10.view.writes (Elt Ideal) f10 ((kernelRun (F := Ideal) 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 X9).1 f12 f13 f14 f15 f16)) (ix3 0 a (lane h d))
      = attend (scores q c' k ks (128 * (i 2).val + a.val)) v vs := by
  rw [kernelRun_out, read_whole3]
  exact out_col 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 X9 f12 f13 h a kv hkv q c' k ks hc hq hc' hk hks d v vs hv ((r4_eq arg9 X9).trans hvs)

include hkv hc hq hc' hk hks in
/-- and the statistics' buffer. -/
theorem stat_block :
    arg11.view.read (Elt Ideal) (arg11.view.writes (Elt Ideal) f11 ((kernelRun (F := Ideal) 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 X9).2.1 f12 f13 f14 f15 f16)) (ix4 0 0 h a)
      = stat (scores q c' k ks (128 * (i 2).val + a.val)) (((128 * (i 2).val + a.val + 1 : ℕ) : ℝ) : EReal) := by
  rw [kernelRun_stat, read_whole4]
  exact stat_col 𝒱 c bd i arg4 harg4 arg5 harg5 arg6 harg6 arg7 harg7 arg8 harg8 arg9 harg9 arg10 harg10 arg11 harg11 arg12 harg12 arg13 harg13 arg14 harg14 arg15 harg15 arg16 harg16 X4 X5 X6 X7 X8 f12 f13 h a kv hkv q c' k ks hc hq hc' hk hks
end

variable (m : (ℓ : Loc nD τ sig) → Buf (Elt Ideal) ℓ) (c : Dev nD)

/-- The head that lane half `h` of a grid point's pair is. -/
abbrev headAt (t : Fin cfg0.N) (h : Fin 2) : Fin 8 := ⟨2 * (prs t).val + h.val, by omega⟩

theorem kv_headAt (t : Fin cfg0.N) (h : Fin 2) : (headAt t h).val / 4 = (grp t).val := by
  show (2 * (2 * (grid0.coords t 1).val + (grid0.coords t 3).val) + h.val) / 4 = (grid0.coords t 1).val
  have h3 : (grid0.coords t 3).val < 2 := (grid0.coords t 3).isLt
  omega

/-- The block of the attention at a grid point, -/
def O6 (c : Dev nD) (t : Fin cfg0.N) : Vec Ideal S1x128x128 .bf16 := fun y =>
  outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 (bat t) (pos t (y 1)) ⟨128 * (prs t).val + (y 2).val, by have : (y 2).val < 128 := (y 2).isLt; omega⟩)
/-- and of the statistics. -/
def O7 (c : Dev nD) (t : Fin cfg0.N) : Vec Ideal S1x1x2x128 .f32 := fun y =>
  statArr (m ((c.tc : Thread nD τ).loc main_arg0)) (m ((c.tc : Thread nD τ).loc main_arg1)) (m ((c.tc : Thread nD τ).loc main_arg2)) (m ((c.tc : Thread nD τ).loc main_arg3)) (ix4 (bat t) (prs t) (y 2) (pos t (y 3)))

theorem O6_apply (t : Fin cfg0.N) (a : Fin 128) (h : Fin 2) (d : Fin 64) :
    O6 m c t (ix3 0 a (lane h d)) = headOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (bat t) (headAt t h) (pos t a) d := by
  refine Attn.outArr_at _ _ _ _ _ _ (bat t) (pos t a) ⟨128 * (prs t).val + (lane h d).val, by omega⟩ (headAt t h) d ?_
  show 128 * (prs t).val + (64 * h.val + d.val) = 64 * (2 * (prs t).val + h.val) + d.val
  omega

/-- Where every query's scale is positive, those blocks are what the body leaves. -/
theorem leaves (hpos : ∀ (c : Dev nD) (b : Fin 2) (s : Fin 32768) (h : Fin 8), (0 : EReal) < m ((c.tc : Thread nD τ).loc main_arg1) (ix3 b s h : S2x32768x8.Idx)) :
    Leaves m (fun c t d => d = O6 m c t) (fun c t d => d = O7 m c t) := by
  intro c t X0 X1 X2 X3 X4 X5 f6 f7 f0 f1 f2 f3 f4 h0 h1 h2 h3 h4 h5
  have kv1 : (grid0.coords t 1).val = (grp t).val := rfl
  have e1 : ∀ h d, (64 * (headAt t h).val + d : ℕ) = 128 * (prs t).val + (64 * h.val + d) := fun h d => by
    show 64 * (2 * (prs t).val + h.val) + d = _
    omega
  have hq : ∀ (h : Fin 2) (a : Fin 128) (d : Fin 64), (st0_3 t).view.read (Elt Ideal) X3 (ix3 0 (lane h d) a)
      = m ((c.tc : Thread nD τ).loc main_arg0) (ix3 (bat t) (pos t a) (Attn.chanOf (headAt t h) d) : S2x32768x512.Idx) := fun h a d =>
    (congrFun h3 _).trans ((iblk_3 t m c (lane h d) a).trans (congrArg (fun x : Fin 512 => m ((c.tc : Thread nD τ).loc main_arg0) (ix3 (bat t) (pos t a) x : S2x32768x512.Idx)) (Fin.ext (e1 h d.val).symm)))
  have hs : ∀ (h : Fin 2) (a : Fin 128), (st0_4 t).view.read (Elt Ideal) X4 (ix4 0 0 h a)
      = m ((c.tc : Thread nD τ).loc main_arg1) (ix3 (bat t) (pos t a) (headAt t h) : S2x32768x8.Idx) := fun h a =>
    (congrFun h4 _).trans (iblk_4 t m c h a)
  have hk : ∀ (h : Fin 2) (r : Keys) (d : Fin 64), (st0_0 t).view.read (Elt Ideal) X0 (ix3 0 r (lane (grp t) d))
      = m ((c.tc : Thread nD τ).loc main_arg2) (ix3 (bat t) r (Attn.kvChanOf (headAt t h) d) : S2x32768x128.Idx) := fun h r d =>
    (congrFun h0 _).trans ((iblk_0 t m c r (lane (grp t) d)).trans (congrArg (fun x : Fin 128 => m ((c.tc : Thread nD τ).loc main_arg2) (ix3 (bat t) r x : S2x32768x128.Idx)) (Fin.ext (by
      show 64 * (grp t).val + d.val = 64 * ((headAt t h).val / 4) + d.val
      rw [kv_headAt]))))
  have hks : ∀ (h : Fin 2) (a : Fin 128) (r : Keys), (st0_1 t).view.read (Elt Ideal) X1 (ix4 0 0 r a)
      = m ((c.tc : Thread nD τ).loc main_arg3) (ix3 (bat t) r (Attn.kvOf (headAt t h)) : S2x32768x2.Idx) := fun h a r =>
    (congrFun h1 _).trans ((iblk_1 t m c r a).trans (congrArg (fun x : Fin 2 => m ((c.tc : Thread nD τ).loc main_arg3) (ix3 (bat t) r x : S2x32768x2.Idx)) (Fin.ext (kv_headAt t h).symm)))
  have hv : ∀ (h : Fin 2) (d : Fin 64) (r : Keys), (st0_2 t).view.read (Elt Ideal) X2 (ix3 0 d r)
      = m ((c.tc : Thread nD τ).loc main_arg4) (ix3 (bat t) r (Attn.kvChanOf (headAt t h) d) : S2x32768x128.Idx) := fun h d r =>
    (congrFun h2 _).trans ((iblk_2 t m c d r).trans (congrArg (fun x : Fin 128 => m ((c.tc : Thread nD τ).loc main_arg4) (ix3 (bat t) r x : S2x32768x128.Idx)) (Fin.ext (by
      show 64 * (grp t).val + d.val = 64 * ((headAt t h).val / 4) + d.val
      rw [kv_headAt]))))
  have hvs : ∀ h : Fin 2, (st0_5 t).view.read (Elt Ideal) X5 (ix3 0 0 0)
      = m ((c.tc : Thread nD τ).loc main_arg5) (ix2 (bat t) (Attn.kvOf (headAt t h)) : S2x2.Idx) := fun h =>
    (congrFun h5 _).trans ((iblk_5 t m c).trans (congrArg (fun x : Fin 2 => m ((c.tc : Thread nD τ).loc main_arg5) (ix2 (bat t) x : S2x2.Idx)) (Fin.ext (kv_headAt t h).symm)))
  constructor
  · funext y
    obtain ⟨a, h, d, rfl⟩ : ∃ (a : Fin 128) (h : Fin 2) (d : Fin 64), y = (ix3 0 a (lane h d) : S1x128x128.Idx) := by
      have h2 : (y 2).val < 128 := (y 2).isLt
      have h0 : (y 0).val < 1 := (y 0).isLt
      refine ⟨y 1, ⟨(y 2).val / 64, by omega⟩, ⟨(y 2).val % 64, by omega⟩, funext fun b => Fin.ext ?_⟩
      match b with
      | ⟨0, _⟩ => show (y 0).val = 0; omega
      | ⟨1, _⟩ => rfl
      | ⟨2, _⟩ => show (y 2).val = 64 * ((y 2).val / 64) + (y 2).val % 64; omega
    rw [O6_apply]
    exact out_block Variants.none c none (grid0.coords t) _ _ _ _ _ _ _ _ _ _ _ _ _ _ _ _ _ _ _ _ _ _ _ _ _ _ X0 X1 X2 X3 X4 X5 f0 f1 h a (grp t) kv1 _ _ _ _ (hpos c (bat t) (pos t a) (headAt t h)) (hq h a) (hs h a) (hk h) (hks h a) f6 f2 f3 f4 d _ _ (hv h d) (hvs h)
  · funext y
    obtain ⟨h, a, rfl⟩ : ∃ (h : Fin 2) (a : Fin 128), y = (ix4 0 0 h a : S1x1x2x128.Idx) := by
      have h0 : (y 0).val < 1 := (y 0).isLt
      have h1 : (y 1).val < 1 := (y 1).isLt
      refine ⟨y 2, y 3, funext fun b => Fin.ext ?_⟩
      match b with
      | ⟨0, _⟩ => show (y 0).val = 0; omega
      | ⟨1, _⟩ => show (y 1).val = 0; omega
      | ⟨2, _⟩ => rfl
      | ⟨3, _⟩ => rfl
    exact stat_block Variants.none c none (grid0.coords t) _ _ _ _ _ _ _ _ _ _ _ _ _ _ _ _ _ _ _ _ _ _ _ _ _ _ X0 X1 X2 X3 X4 X5 f0 f1 h a (grp t) kv1 _ _ _ _ (hpos c (bat t) (pos t a) (headAt t h)) (hq h a) (hs h a) (hk h) (hks h a) f7 f2 f3 f4

end Cert.Proof.KernelIdeal

end
-- ==== Proof.Exact.lean ====
/- The run of the program with what the body leaves in its results' blocks named: the results' arrays hold those blocks. -/
module

public import proofs.«01_k».proof.Proof.Whole

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F] [Named F]

variable (m : (ℓ : Loc nD τ sig) → Buf (Elt F) ℓ) (ρ : Dev nD → PrngReg)

local notation "𝕄G" => MT nD τ sig Unit (Elt F) ℕ (UR sig nD τ) ℕ

set_option backward.isDefEq.respectTransparency.types false in
/-- The body's obligation with the results' blocks named. -/
theorem body_exact (O6 : Dev nD → Fin cfg0.N → Vec F S1x128x128 .bf16) (O7 : Dev nD → Fin cfg0.N → Vec F S1x1x2x128 .f32)
    (hL : Leaves m (fun c t d => d = O6 c t) (fun c t d => d = O7 c t)) (c : Dev nD) : BodyObligationLoose ((dats m O6 O7 0 c)) (defs₀ (F := F)) Variants.none () Set.univ := fun t => by
  rw [bigSep_W0, bigSep_W0, defs₀_row]
  show iprop(Pipeline.ΦA spec0 c ∗ (dats m O6 O7 0 c).owesAt () t.castSucc ∗ (∃ d, owns (c : Thread nD τ) (st0_0 t) fullShare ((dats m O6 O7 0 c).before 0 t d)) ∗ (∃ d, owns (c : Thread nD τ) (st0_1 t) fullShare ((dats m O6 O7 0 c).before 1 t d)) ∗ (∃ d, owns (c : Thread nD τ) (st0_2 t) fullShare ((dats m O6 O7 0 c).before 2 t d)) ∗ (∃ d, owns (c : Thread nD τ) (st0_3 t) fullShare ((dats m O6 O7 0 c).before 3 t d)) ∗ (∃ d, owns (c : Thread nD τ) (st0_4 t) fullShare ((dats m O6 O7 0 c).before 4 t d)) ∗ (∃ d, owns (c : Thread nD τ) (st0_5 t) fullShare ((dats m O6 O7 0 c).before 5 t d)) ∗ (∃ d, owns (c : Thread nD τ) (st0_6 t) fullShare ((dats m O6 O7 0 c).before 6 t d)) ∗ (∃ d, owns (c : Thread nD τ) (st0_7 t) fullShare ((dats m O6 O7 0 c).before 7 t d))) ⊢ wp Idealize.ShloMosaic.frame (wpE (defs₀ (F := F)) Variants.none (c : Thread nD τ) none) Set.univ (bodyAt0 t) (fun _ =>
    iprop(Pipeline.ΦA spec0 c ∗ (dats m O6 O7 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (O6 c t) ∗ owns (c : Thread nD τ) (st0_7 t) fullShare (O7 c t)))
  simp only [scr_eq, before_0, before_1, before_2, before_3, before_4, before_5]
  generalize (dats m O6 O7 0 c).owesAt () t.castSucc = W
  iintro ⟨⟨HS, Hg⟩, HW, ⟨%_, H0⟩, ⟨%_, H1⟩, ⟨%_, H2⟩, ⟨%_, H3⟩, ⟨%_, H4⟩, ⟨%_, H5⟩, ⟨%d6, H6⟩, ⟨%d7, H7⟩⟩
  iapply (wp_wand_r Idealize.ShloMosaic.frame (wpE (defs₀ (F := F)) Variants.none (c : Thread nD τ) none) Set.univ)
  isplitl [HS Hg HW H0 H1 H2 H3 H4 H5 H6 H7]
  · iapply (sound m (fun c t d => d = O6 c t) (fun c t d => d = O7 c t) hL c t (iprop((∃ r, prngReg c r) ∗ W)))
    isplitl [HS]; · iexact HS
    isplitl [Hg HW]; · (isplitl [Hg]; · iexact Hg); iexact HW
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · iintro %_ ⟨HS, ⟨Hg, HW⟩, H0, H1, H2, H3, H4, H5, ⟨%e6, H6, %h6⟩, ⟨%e7, H7, %h7⟩⟩
    isplitl [HS Hg]
    · isplitl [HS]; · iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    subst h6
    subst h7
    isplitl [H6]; · iexact H6
    iexact H7

set_option backward.isDefEq.respectTransparency.types false in
/-- The run ends with the results' arrays at the write-backs of those blocks, every other buffer as the region found it. -/
theorem run_exact (O6 : Dev nD → Fin cfg0.N → Vec F S1x128x128 .bf16) (O7 : Dev nD → Fin cfg0.N → Vec F S1x1x2x128 .f32)
    (hL : Leaves m (fun c t d => d = O6 c t) (fun c t d => d = O7 c t)) :
    θ_run defs (onTc (τ := τ) (main (F := F))) (s₀ m ρ) (fun r => Pipeline.FramePost cfgs (dats m O6 O7) (0 : Fin 1) (V m) r ∧ r.2.sem = fun _ => 0) :=
  Pipeline.θ_run_frame (Q' := _) cfgs (dats m O6 O7) (0 : Fin 1) launch0 defs₀ Variants.none m ρ main
    (hbody := fun c => (body_exact m O6 O7 hL c)) (hshare := fun c => (dats m O6 O7 0 c).share_full fun _ => rfl)
    (howed := fun _ _ => rfl) (V := V m) (hmain := hmain m Variants.none) (hA := fun _ _ => rfl) (hΦ := fun _ _ => rfl)

end Cert.Proof.KernelIdeal

end
-- ==== Proof.KernelRun.lean ====
/- The kernel's run over the extended reals: what it leaves in its results. -/
module

public import proofs.«01_k».proof.Proof.Leaves
public import proofs.«01_k».proof.Proof.Exact
public import Idealize.ShloMosaic.Lib.Claim
public import Idealize.ShloMosaic.Lib.Pipeline.ValueKit

@[expose] public section

set_option maxRecDepth 16384
set_option maxHeartbeats 4000000

noncomputable section

namespace Cert.Proof.KernelIdeal

open Cert.KernelIdeal Cert.KernelIdeal.Gen Cert.Proof.Attn
open Idealize.ShloMosaic Idealize.ShloMosaic.TcCoe Idealize.ShloMosaic.Tactic

theorem covers_6 : (cfg0.win 6).Covers := by decide +kernel
theorem covers_7 : (cfg0.win 7).Covers := by decide +kernel

/-- If every block left is the block of one array, the array is what the run leaves: the first result's windows, -/
theorem arr6_of (c : Dev nD) (dat : Pipeline.Dat τ (Elt Ideal) Unit ℕ (UR sig nD τ) ℕ cfg0 c) (G : S2x32768x512.Idx → EReal) (O : Fin cfg0.N → Vec Ideal S1x128x128 .bf16)
    (h : ∀ t, dat.after 6 t = O t)
    (hO : ∀ t (y : S1x128x128.Idx), O t y = G (ix3 (bat t) (pos t (y 1)) ⟨128 * (prs t).val + (y 2).val, by have : (y 2).val < 128 := (y 2).isLt; omega⟩)) :
    dat.arrAt 6 cfg0.N = (G : Vec Ideal S2x32768x512 .bf16) := by
  refine dat.arrAt_eq_of_covers 6 G covers_6 fun t _ y => ?_
  rw [h]
  refine (hO t y).trans ?_
  show G _ = G _
  refine congrArg G (funext fun a => Fin.ext ?_)
  match a with
  | ⟨0, _⟩ =>
    show (bat t).val = win0_6.index t 0 * 1 + 1 * (y 0).val
    have h0 : (y 0).val < 1 := (y 0).isLt
    rw [ix_6]; show (bat t).val = (bat t).val * 1 + 1 * (y 0).val; omega
  | ⟨1, _⟩ => show 128 * (qbk t).val + (y 1).val = win0_6.index t 1 * 128 + 1 * (y 1).val; rw [ix_6]; show _ = (qbk t).val * 128 + 1 * (y 1).val; omega
  | ⟨2, _⟩ => show 128 * (prs t).val + (y 2).val = win0_6.index t 2 * 128 + 1 * (y 2).val; rw [ix_6]; show _ = (prs t).val * 128 + 1 * (y 2).val; omega

/-- and the second's. -/
theorem arr7_of (c : Dev nD) (dat : Pipeline.Dat τ (Elt Ideal) Unit ℕ (UR sig nD τ) ℕ cfg0 c) (G : S2x4x2x32768.Idx → EReal) (O : Fin cfg0.N → Vec Ideal S1x1x2x128 .f32)
    (h : ∀ t, dat.after 7 t = O t)
    (hO : ∀ t (y : S1x1x2x128.Idx), O t y = G (ix4 (bat t) (prs t) (y 2) (pos t (y 3)))) :
    dat.arrAt 7 cfg0.N = (G : Vec Ideal S2x4x2x32768 .f32) := by
  refine dat.arrAt_eq_of_covers 7 G covers_7 fun t _ y => ?_
  rw [h]
  refine (hO t y).trans ?_
  show G _ = G _
  refine congrArg G (funext fun a => Fin.ext ?_)
  have h0 : (y 0).val < 1 := (y 0).isLt
  have h1 : (y 1).val < 1 := (y 1).isLt
  match a with
  | ⟨0, _⟩ => show (bat t).val = win0_7.index t 0 * 1 + 1 * (y 0).val; rw [ix_7]; show (bat t).val = (bat t).val * 1 + 1 * (y 0).val; omega
  | ⟨1, _⟩ => show (prs t).val = win0_7.index t 1 * 1 + 1 * (y 1).val; rw [ix_7]; show (prs t).val = (prs t).val * 1 + 1 * (y 1).val; omega
  | ⟨2, _⟩ => show (y 2).val = win0_7.index t 2 * 2 + 1 * (y 2).val; rw [ix_7]; show (y 2).val = 0 * 2 + 1 * (y 2).val; omega
  | ⟨3, _⟩ => show 128 * (qbk t).val + (y 3).val = win0_7.index t 3 * 128 + 1 * (y 3).val; rw [ix_7]; show _ = (qbk t).val * 128 + 1 * (y 3).val; omega

variable (m : (ℓ : Loc nD τ sig) → Buf (Elt Ideal) ℓ) (ρ : Dev nD → PrngReg) (c : Dev nD)

theorem after_6 (O6 : Dev nD → Fin cfg0.N → Vec Ideal S1x128x128 .bf16) (O7 : Dev nD → Fin cfg0.N → Vec Ideal S1x1x2x128 .f32) (t : Fin cfg0.N) : (dats m O6 O7 0 c).after 6 t = O6 c t := rfl
theorem after_7 (O6 : Dev nD → Fin cfg0.N → Vec Ideal S1x128x128 .bf16) (O7 : Dev nD → Fin cfg0.N → Vec Ideal S1x1x2x128 .f32) (t : Fin cfg0.N) : (dats m O6 O7 0 c).after 7 t = O7 c t := rfl

theorem arr6 : (dats m (O6 m) (O7 m) 0 c).arrAt 6 cfg0.N = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  arr6_of c (dats m (O6 m) (O7 m) 0 c) (outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (O6 m c) (after_6 m c (O6 m) (O7 m)) fun t y => by
    unfold O6
    rfl

theorem arr7 : (dats m (O6 m) (O7 m) 0 c).arrAt 7 cfg0.N = statArr (m ((c.tc : Thread nD τ).loc main_arg0)) (m ((c.tc : Thread nD τ).loc main_arg1)) (m ((c.tc : Thread nD τ).loc main_arg2)) (m ((c.tc : Thread nD τ).loc main_arg3)) :=
  arr7_of c (dats m (O6 m) (O7 m) 0 c) (statArr (m ((c.tc : Thread nD τ).loc main_arg0)) (m ((c.tc : Thread nD τ).loc main_arg1)) (m ((c.tc : Thread nD τ).loc main_arg2)) (m ((c.tc : Thread nD τ).loc main_arg3))) (O7 m c) (after_7 m c (O6 m) (O7 m)) fun t y => by
    unfold O7
    rfl

/-- Where every query's scale is positive, the kernel ends with causal attention and the rows' statistics in its results. -/
theorem run (hpos : ∀ (c : Dev nD) (b : Fin 2) (s : Fin 32768) (h : Fin 8), (0 : EReal) < m ((c.tc : Thread nD τ).loc main_arg1) (ix3 b s h : S2x32768x8.Idx)) :
    θ_run defs (onTc (τ := τ) (main (F := Ideal))) ⟨m, fun _ => 0, ρ⟩ (fun r => ∀ c : Dev nD,
      r.2.mem ((c.tc : Thread nD τ).loc main_v8_0) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v8_1) = statArr (m ((c.tc : Thread nD τ).loc main_arg0)) (m ((c.tc : Thread nD τ).loc main_arg1)) (m ((c.tc : Thread nD τ).loc main_arg2)) (m ((c.tc : Thread nD τ).loc main_arg3))) :=
  (θ_run defs _ _).mono (fun r h c => ⟨((h.1 c).1 6).trans (arr6 m c), ((h.1 c).1 7).trans (arr7 m c)⟩) (run_exact m ρ (O6 m) (O7 m) (leaves m hpos))

end Cert.Proof.KernelIdeal

end
-- ==== Proof.RefBlock.lean ====
/- What the reference's body computes, over the extended reals: of every head and query the attention and the log of the sum. -/
module

public import proofs.«01_k».proof.Proof.Softmax
public import proofs.«01_k».proof.Proof.Gen.ReferenceIdeal.Skeleton

@[expose] public section

set_option maxRecDepth 16384
set_option maxHeartbeats 4000000

noncomputable section

namespace Cert.Proof.ReferenceIdeal

open Cert.ReferenceIdeal Cert.ReferenceIdeal.Gen
open Idealize.ShloMosaic Idealize.ShloMosaic.TcCoe Idealize.ShloMosaic.Tactic
open Cert.Proof.Attn (Keys scores attend stat total top expo clip)

variable (q k : Vec Ideal S16x32768x64 .fp8e4m3) (qs : Vec Ideal S16x32768x1 .f32) (ks : Vec Ideal S16x1x32768 .f32)

/-- The scores of query `s` of head `h`. -/
abbrev row (h : Fin 16) (s : Fin 32768) : Keys → EReal :=
  scores (fun d => q (ix3 h s d)) (qs (ix3 h s 0)) (fun r d => k (ix3 h r d)) (fun r => ks (ix3 h 0 r)) s.val

/-- Small numbers compare as machine integers as they do. -/
theorem sle_ofNat (a b : ℕ) (ha : a < 2147483648) (hb : b < 2147483648) : (BitVec.ofNat 32 a).sle (BitVec.ofNat 32 b) = decide (a ≤ b) := by
  rw [BitVec.sle_eq_decide, BitVec.toInt_eq_toNat_cond, BitVec.toInt_eq_toNat_cond, BitVec.toNat_ofNat, BitVec.toNat_ofNat]
  refine decide_eq_decide.2 ?_
  omega

theorem neg_inf : Ideal.ofBits .f32 0xFF800000#32 = (⊥ : EReal) := by
  simp [Ideal.ofBits, Ideal.ieee]

theorem pay3_apply (h : Fin 16) (s r : Fin 32768) : k0_pay3 q k qs ks (ix3 h s r) = row q k qs ks h s r := by
  pointwise [k0_pay3]
  unfold row scores
  by_cases hr : r.val ≤ s.val
  · rw [if_pos hr, show IntOp.cmpi CmpIPredicate.sle (BitVec.ofNat 32 r.val) (BitVec.ofNat 32 s.val) = 1#1 from
      congrArg BitVec.ofBool ((sle_ofNat r.val s.val (by omega) (by omega)).trans (decide_eq_true hr))]
    rfl
  · rw [if_neg hr, show IntOp.cmpi CmpIPredicate.sle (BitVec.ofNat 32 r.val) (BitVec.ofNat 32 s.val) = 0#1 from
      congrArg BitVec.ofBool ((sle_ofNat r.val s.val (by omega) (by omega)).trans (decide_eq_false hr))]
    exact neg_inf

theorem pay4_apply (h : Fin 16) (s : Fin 32768) : k0_pay4 q k qs ks (ix3 h s 0) = top (row q k qs ks h s) := by
  pointwise [k0_pay4]
  rw [neg_inf]
  unfold top Finset.sup
  exact congrArg (fun f => Finset.fold max ⊥ f Finset.univ) (funext fun r => pay3_apply q k qs ks h s r)

theorem pay5_apply (h : Fin 16) (s r : Fin 32768) : k0_pay5 q k qs ks (ix3 h s r) = expo (row q k qs ks h s) r := by
  pointwise [k0_pay5]
  rw [pay3_apply, pay4_apply]
  rfl

theorem pay6_apply (h : Fin 16) (s : Fin 32768) : k0_pay6 q k qs ks (ix3 h s 0) = total (row q k qs ks h s) := by
  pointwise [k0_pay6]
  exact Finset.sum_congr rfl fun r _ => pay5_apply q k qs ks h s r

theorem pay7_apply (h : Fin 16) (s r : Fin 32768) : k0_pay7 q k qs ks (ix3 h s r) = clip (expo (row q k qs ks h s) r * Ideal.ofBits .f32 0x43800000#32) := by
  pointwise [k0_pay7]
  rw [pay5_apply, clip]

theorem out_apply (v : Vec Ideal S16x32768x64 .fp8e4m3) (vs : Vec Ideal S16x1x1 .f32) (h : Fin 16) (s : Fin 32768) (d : Fin 64) :
    k0_pay1 (k0_pay6 q k qs ks) (k0_pay7 q k qs ks) (k0_pay8 v) (constant S16x32768x64 .f32 0x00000000#32) vs (ix3 h s d)
      = attend (row q k qs ks h s) (fun r => v (ix3 h r d)) (vs (ix3 h 0 0)) := by
  pointwise [k0_pay1, k0_pay8]
  rw [pay6_apply, attend]
  refine congrArg (fun x : EReal => Ideal.div (x * (Ideal.ofBits .f32 0x3B800000#32 * vs (ix3 h 0 0))) (total (row q k qs ks h s))) ?_
  exact Finset.sum_congr rfl fun r _ => congrArg (· * v (ix3 h r d)) (pay7_apply q k qs ks h s r)

theorem pay2_apply (m l : FVec Ideal S16x32768x1 .f32) (h : Fin 16) (s : Fin 32768) :
    k0_pay2 m l (ix3 h s 0) = m (ix3 h s 0) + Ideal.log (l (ix3 h s 0)) - Ideal.log (FloatOps.sitofp (F := Ideal) .f32 (IntOp.addi (BitVec.ofNat 32 s.val) 1#32)) := by
  pointwise [k0_pay2]

/-- The number of keys that a query sees, as the reference counts it. -/
theorem seen_eq (n : ℕ) (h : n + 1 < 2147483648) : FloatOps.sitofp (F := Ideal) .f32 (IntOp.addi (BitVec.ofNat 32 n) 1#32) = (((n + 1 : ℕ) : ℝ) : EReal) := by
  show (((BitVec.ofNat 32 n + BitVec.ofNat 32 1).toInt : ℝ) : EReal) = _
  rw [← BitVec.ofNat_add, BitVec.toInt_eq_toNat_cond, BitVec.toNat_ofNat, Nat.mod_eq_of_lt (by omega), if_pos (by omega)]
  norm_cast

theorem stat_apply (h : Fin 16) (s : Fin 32768) :
    k0_pay2 (k0_pay4 q k qs ks) (k0_pay6 q k qs ks) (ix3 h s 0) = stat (row q k qs ks h s) (((s.val + 1 : ℕ) : ℝ) : EReal) := by
  rw [pay2_apply, pay4_apply, pay6_apply, seen_eq s.val (by omega), stat]

end Cert.Proof.ReferenceIdeal

end
-- ==== Proof.RefHost.lean ====
/- The reference's operands, read at the arguments: head `h` of batch `b` is head `8 * b + h` of sixteen. -/
module

public import proofs.«01_k».proof.Proof.RefBlock
public import proofs.«01_k».proof.Proof.Gen.ReferenceIdeal.Frame
public import Idealize.ShloMosaic.Lib.Claim

@[expose] public section

set_option maxRecDepth 16384
set_option maxHeartbeats 4000000

noncomputable section

namespace Cert.Proof.ReferenceIdeal

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

/-- Head `h` of batch `b` among the sixteen. -/
abbrev hd (b : Fin 2) (h : Fin 8) : Fin 16 := ⟨8 * b.val + h.val, by omega⟩

/-- What the host's lines leave, as one list of operations. -/
theorem V_eq (b : Ref sig .tc) : V m c b = StableHlo.after hostOps0 (fun b => m (c, b)) (Proc.devRef .tc b) := by
  show StableHlo.after (List.flatten [hostOps0]) _ _ = _
  rw [List.flatten_cons, List.flatten_nil, List.append_nil]

/-- The queries, head by head. -/
theorem V_v2 (b : Fin 2) (h : Fin 8) (s : Fin 32768) (d : Fin 64) :
    V m c main_v2 (ix3 (hd b h) s d : S16x32768x64.Idx) = m ((c.tc : Thread nD τ).loc main_arg0) (ix3 b s ⟨64 * h.val + d.val, by omega⟩ : S2x32768x512.Idx) := by
  rw [V_eq]
  entry_read
  pointwise []
  exact congrArg₂ (fun (x : Fin 2) (y : Fin 512) => m ((c.tc : Thread nD τ).loc main_arg0) (ix3 x s y : S2x32768x512.Idx))
    (Fin.ext (by show (8 * b.val + h.val) / 8 = b.val; omega))
    (Fin.ext (by show (8 * b.val + h.val) % 8 * 64 + d.val = 64 * h.val + d.val; omega))

/-- The keys of the head's group. -/
theorem V_v7 (b : Fin 2) (h : Fin 8) (r : Fin 32768) (d : Fin 64) :
    V m c main_v7 (ix3 (hd b h) r d : S16x32768x64.Idx) = m ((c.tc : Thread nD τ).loc main_arg2) (ix3 b r ⟨64 * (h.val / 4) + d.val, by omega⟩ : S2x32768x128.Idx) := by
  rw [V_eq]
  entry_read
  pointwise []
  exact congrArg₂ (fun (x : Fin 2) (y : Fin 128) => m ((c.tc : Thread nD τ).loc main_arg2) (ix3 x r y : S2x32768x128.Idx))
    (Fin.ext (by show (8 * b.val + h.val) / 8 = b.val; omega))
    (Fin.ext (by show (8 * b.val + h.val) / 4 % 2 * 64 + d.val = 64 * (h.val / 4) + d.val; omega))

/-- The values of the head's group. -/
theorem V_v12 (b : Fin 2) (h : Fin 8) (r : Fin 32768) (d : Fin 64) :
    V m c main_v12 (ix3 (hd b h) r d : S16x32768x64.Idx) = m ((c.tc : Thread nD τ).loc main_arg4) (ix3 b r ⟨64 * (h.val / 4) + d.val, by omega⟩ : S2x32768x128.Idx) := by
  rw [V_eq]
  entry_read
  pointwise []
  exact congrArg₂ (fun (x : Fin 2) (y : Fin 128) => m ((c.tc : Thread nD τ).loc main_arg4) (ix3 x r y : S2x32768x128.Idx))
    (Fin.ext (by show (8 * b.val + h.val) / 8 = b.val; omega))
    (Fin.ext (by show (8 * b.val + h.val) / 4 % 2 * 64 + d.val = 64 * (h.val / 4) + d.val; omega))

/-- The queries' scales. -/
theorem V_v14 (b : Fin 2) (h : Fin 8) (s : Fin 32768) :
    V m c main_v14 (ix3 (hd b h) s 0 : S16x32768x1.Idx) = m ((c.tc : Thread nD τ).loc main_arg1) (ix3 b s h : S2x32768x8.Idx) := by
  rw [V_eq]
  entry_read
  pointwise []
  exact congrArg₂ (fun (x : Fin 2) (y : Fin 8) => m ((c.tc : Thread nD τ).loc main_arg1) (ix3 x s y : S2x32768x8.Idx))
    (Fin.ext (by show (8 * b.val + h.val) / 8 = b.val; omega))
    (Fin.ext (by show (8 * b.val + h.val) % 8 = h.val; omega))

/-- The keys' scales. -/
theorem V_v19 (b : Fin 2) (h : Fin 8) (r : Fin 32768) :
    V m c main_v19 (ix3 (hd b h) 0 r : S16x1x32768.Idx) = m ((c.tc : Thread nD τ).loc main_arg3) (ix3 b r ⟨h.val / 4, by omega⟩ : S2x32768x2.Idx) := by
  rw [V_eq]
  entry_read
  pointwise []
  exact congrArg₂ (fun (x : Fin 2) (y : Fin 2) => m ((c.tc : Thread nD τ).loc main_arg3) (ix3 x r y : S2x32768x2.Idx))
    (Fin.ext (by show (8 * b.val + h.val) / 8 = b.val; omega))
    (Fin.ext (by show (8 * b.val + h.val) / 4 % 2 = h.val / 4; omega))

/-- The values' scale. -/
theorem V_v23 (b : Fin 2) (h : Fin 8) :
    V m c main_v23 (ix3 (hd b h) 0 0 : S16x1x1.Idx) = m ((c.tc : Thread nD τ).loc main_arg5) (ix2 b ⟨h.val / 4, by omega⟩ : S2x2.Idx) := by
  rw [V_eq]
  entry_read
  pointwise []
  exact congrArg₂ (fun (x : Fin 2) (y : Fin 2) => m ((c.tc : Thread nD τ).loc main_arg5) (ix2 x y : S2x2.Idx))
    (Fin.ext (by show (8 * b.val + h.val) / 8 = b.val; omega))
    (Fin.ext (by show (8 * b.val + h.val) / 4 % 2 = h.val / 4; omega))

end Cert.Proof.ReferenceIdeal

end
-- ==== Proof.RefValue.lean ====
/- What the reference's run leaves in its results' arrays. -/
module

public import proofs.«01_k».proof.Proof.RefHost
public import proofs.«01_k».proof.Proof.Spec
public import Idealize.ShloMosaic.Lib.Pipeline.ValueKit

@[expose] public section

set_option maxRecDepth 16384
set_option maxHeartbeats 4000000

noncomputable section

namespace Cert.Proof.ReferenceIdeal

open Cert.ReferenceIdeal Cert.ReferenceIdeal.Gen Cert.Proof.Attn
open Idealize.ShloMosaic Idealize.ShloMosaic.TcCoe Idealize.ShloMosaic.Tactic

variable (m : (ℓ : Loc nD τ sig) → Buf (Elt Ideal) ℓ) (c : Dev nD)

section
variable (t : Fin cfg0.N)

/-! Every operand is one block, its whole array. -/

theorem read_0 (X : Vec Ideal S16x32768x64 .fp8e4m3) : ((cfg0.win 0).blk t).view.read (Elt Ideal) (X : Buf (Elt Ideal) ((c.tc : Thread nD τ).loc main_v2)) = X := by
  funext y
  rw [View.read_apply]
  show X _ = X _
  refine congrArg X (funext fun a => Fin.ext ?_)
  exact Pipeline.Window.rect_emb_val_of_index_zero win0_0 t a rfl y

theorem blk_0 : (iblk m c 0 t : Vec Ideal S16x32768x64 .fp8e4m3) = V m c main_v2 := read_0 t (V m c main_v2)

theorem read_1 (X : Vec Ideal S16x32768x1 .f32) : ((cfg0.win 1).blk t).view.read (Elt Ideal) (X : Buf (Elt Ideal) ((c.tc : Thread nD τ).loc main_v14)) = X := by
  funext y
  rw [View.read_apply]
  show X _ = X _
  refine congrArg X (funext fun a => Fin.ext ?_)
  exact Pipeline.Window.rect_emb_val_of_index_zero win0_1 t a rfl y

theorem blk_1 : (iblk m c 1 t : Vec Ideal S16x32768x1 .f32) = V m c main_v14 := read_1 t (V m c main_v14)

theorem read_2 (X : Vec Ideal S16x32768x64 .fp8e4m3) : ((cfg0.win 2).blk t).view.read (Elt Ideal) (X : Buf (Elt Ideal) ((c.tc : Thread nD τ).loc main_v7)) = X := by
  funext y
  rw [View.read_apply]
  show X _ = X _
  refine congrArg X (funext fun a => Fin.ext ?_)
  exact Pipeline.Window.rect_emb_val_of_index_zero win0_2 t a rfl y

theorem blk_2 : (iblk m c 2 t : Vec Ideal S16x32768x64 .fp8e4m3) = V m c main_v7 := read_2 t (V m c main_v7)

theorem read_3 (X : Vec Ideal S16x1x32768 .f32) : ((cfg0.win 3).blk t).view.read (Elt Ideal) (X : Buf (Elt Ideal) ((c.tc : Thread nD τ).loc main_v19)) = X := by
  funext y
  rw [View.read_apply]
  show X _ = X _
  refine congrArg X (funext fun a => Fin.ext ?_)
  exact Pipeline.Window.rect_emb_val_of_index_zero win0_3 t a rfl y

theorem blk_3 : (iblk m c 3 t : Vec Ideal S16x1x32768 .f32) = V m c main_v19 := read_3 t (V m c main_v19)

theorem read_4 (X : Vec Ideal S16x32768x64 .fp8e4m3) : ((cfg0.win 4).blk t).view.read (Elt Ideal) (X : Buf (Elt Ideal) ((c.tc : Thread nD τ).loc main_v12)) = X := by
  funext y
  rw [View.read_apply]
  show X _ = X _
  refine congrArg X (funext fun a => Fin.ext ?_)
  exact Pipeline.Window.rect_emb_val_of_index_zero win0_4 t a rfl y

theorem blk_4 : (iblk m c 4 t : Vec Ideal S16x32768x64 .fp8e4m3) = V m c main_v12 := read_4 t (V m c main_v12)

theorem read_5 (X : Vec Ideal S16x1x1 .f32) : ((cfg0.win 5).blk t).view.read (Elt Ideal) (X : Buf (Elt Ideal) ((c.tc : Thread nD τ).loc main_v23)) = X := by
  funext y
  rw [View.read_apply]
  show X _ = X _
  refine congrArg X (funext fun a => Fin.ext ?_)
  exact Pipeline.Window.rect_emb_val_of_index_zero win0_5 t a rfl y

theorem blk_5 : (iblk m c 5 t : Vec Ideal S16x1x1 .f32) = V m c main_v23 := read_5 t (V m c main_v23)

/-- The body's first result, of the whole operands, -/
def P6 : FVec Ideal S16x32768x64 .bf16 :=
  k0_pay1 (k0_pay6 (F := Ideal) (V m c main_v2) (V m c main_v7) (V m c main_v14) (V m c main_v19))
    (k0_pay7 (F := Ideal) (V m c main_v2) (V m c main_v7) (V m c main_v14) (V m c main_v19)) (k0_pay8 (F := Ideal) (V m c main_v12)) (constant S16x32768x64 .f32 0x00000000#32) (V m c main_v23)
/-- and its second. -/
def P7 : FVec Ideal S16x32768x1 .f32 :=
  k0_pay2 (k0_pay4 (F := Ideal) (V m c main_v2) (V m c main_v7) (V m c main_v14) (V m c main_v19))
    (k0_pay6 (F := Ideal) (V m c main_v2) (V m c main_v7) (V m c main_v14) (V m c main_v19))

theorem zero3 {n : Fin 3 → Nat} (h : n = ![0, 0, 0]) : n = fun _ => 0 := by
  subst h; funext a; match a with | ⟨0, _⟩ => rfl | ⟨1, _⟩ => rfl | ⟨2, _⟩ => rfl

theorem out6_eq (x0 : Vec Ideal S16x32768x64 .fp8e4m3) (x1 : Vec Ideal S16x32768x1 .f32) (x2 : Vec Ideal S16x32768x64 .fp8e4m3) (x3 : Vec Ideal S16x1x32768 .f32) (x4 : Vec Ideal S16x32768x64 .fp8e4m3) (x5 : Vec Ideal S16x1x1 .f32) :
    out0_6 x0 x1 x2 x3 x4 x5 = k0_pay1 (k0_pay6 x0 x2 x1 x3) (k0_pay7 x0 x2 x1 x3) (k0_pay8 x4) (constant S16x32768x64 .f32 0x00000000#32) x5 := by
  unfold out0_6 k0_pay9
  rw [View.canon_unit_zero (zero3 rfl), View.ld_unit_zero (zero3 rfl), View.ld_unit_zero (zero3 rfl), View.ld_unit_zero (zero3 rfl), View.ld_unit_zero (zero3 rfl), View.ld_unit_zero (zero3 rfl), View.ld_unit_zero (zero3 rfl)]

theorem out7_eq (x0 : Vec Ideal S16x32768x64 .fp8e4m3) (x1 : Vec Ideal S16x32768x1 .f32) (x2 : Vec Ideal S16x32768x64 .fp8e4m3) (x3 : Vec Ideal S16x1x32768 .f32) (x4 : Vec Ideal S16x32768x64 .fp8e4m3) (x5 : Vec Ideal S16x1x1 .f32) :
    out0_7 x0 x1 x2 x3 x4 x5 = k0_pay2 (k0_pay4 x0 x2 x1 x3) (k0_pay6 x0 x2 x1 x3) := by
  unfold out0_7 k0_pay9
  rw [View.canon_unit_zero (zero3 rfl), View.ld_unit_zero (zero3 rfl), View.ld_unit_zero (zero3 rfl), View.ld_unit_zero (zero3 rfl), View.ld_unit_zero (zero3 rfl)]

theorem after6 : (dats m 0 c).after 6 t = P6 m c := by
  rw [after0_6, out6_eq, blk_0, blk_1, blk_2, blk_3, blk_4, blk_5, P6]

theorem after7 : (dats m 0 c).after 7 t = P7 m c := by
  rw [after0_7, out7_eq, blk_0, blk_1, blk_2, blk_3, P7]

end

theorem covers_6 : (cfg0.win 6).Covers := by decide +kernel
theorem covers_7 : (cfg0.win 7).Covers := by decide +kernel

theorem arr6_of (dat : Pipeline.Dat τ (Elt Ideal) Unit ℕ (UR sig nD τ) ℕ cfg0 c) (X : FVec Ideal S16x32768x64 .bf16) (h : ∀ t, dat.after 6 t = X) : dat.arrAt 6 cfg0.N = X := by
  refine dat.arrAt_eq_of_covers 6 X covers_6 fun t _ y => ?_
  rw [h]
  show X _ = X _
  refine congrArg X (funext fun a => Fin.ext ?_)
  exact (Pipeline.Window.rect_emb_val_of_index_zero win0_6 t a rfl y).symm

/-- The first result's array after the region. -/
theorem arr6 : (dats m 0 c).arrAt 6 cfg0.N = P6 m c := arr6_of c (dats m 0 c) (P6 m c) (after6 m c)

theorem arr7_of (dat : Pipeline.Dat τ (Elt Ideal) Unit ℕ (UR sig nD τ) ℕ cfg0 c) (X : FVec Ideal S16x32768x1 .f32) (h : ∀ t, dat.after 7 t = X) : dat.arrAt 7 cfg0.N = X := by
  refine dat.arrAt_eq_of_covers 7 X covers_7 fun t _ y => ?_
  rw [h]
  show X _ = X _
  refine congrArg X (funext fun a => Fin.ext ?_)
  exact (Pipeline.Window.rect_emb_val_of_index_zero win0_7 t a rfl y).symm

/-- The second result's array after the region. -/
theorem arr7 : (dats m 0 c).arrAt 7 cfg0.N = P7 m c := arr7_of c (dats m 0 c) (P7 m c) (after7 m c)

/-- The scores of a row, at the arguments. -/
theorem row_eq (b : Fin 2) (h : Fin 8) (s : Fin 32768) :
    row (V m c main_v2) (V m c main_v7) (V m c main_v14) (V m c main_v19) (hd b h) s
      = headScores (m ((c.tc : Thread nD τ).loc main_arg0)) (m ((c.tc : Thread nD τ).loc main_arg1)) (m ((c.tc : Thread nD τ).loc main_arg2)) (m ((c.tc : Thread nD τ).loc main_arg3)) b h s := by
  exact scores_congr _ (V_v2 m c b h s) (V_v14 m c b h s) (V_v7 m c b h) (V_v19 m c b h)

theorem P6_apply (b : Fin 2) (h : Fin 8) (s : Fin 32768) (d : Fin 64) :
    P6 m c (ix3 (hd b h) s d) = headOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b h s d := by
  exact (out_apply _ _ _ _ _ _ _ _ _).trans (attend_congr (row_eq m c b h s) (fun r => V_v12 m c b h r d) (V_v23 m c b h))

theorem P7_apply (b : Fin 2) (h : Fin 8) (s : Fin 32768) :
    P7 m c (ix3 (hd b h) s 0) = headStat (m ((c.tc : Thread nD τ).loc main_arg0)) (m ((c.tc : Thread nD τ).loc main_arg1)) (m ((c.tc : Thread nD τ).loc main_arg2)) (m ((c.tc : Thread nD τ).loc main_arg3)) b h s := by
  unfold P7 headStat
  rw [stat_apply]
  exact congrArg (fun x => stat x _) (row_eq m c b h s)

end Cert.Proof.ReferenceIdeal

end
-- ==== Proof.RefRun.lean ====
/- The reference's run: what it leaves in its results. -/
module

public import proofs.«01_k».proof.Proof.RefValue
public import Idealize.ShloMosaic.Lib.Claim

@[expose] public section

set_option maxRecDepth 16384
set_option maxHeartbeats 4000000

noncomputable section

namespace Cert.Proof.ReferenceIdeal

open Cert.ReferenceIdeal Cert.ReferenceIdeal.Gen Cert.Proof.Attn
open Idealize.ShloMosaic Idealize.ShloMosaic.TcCoe Idealize.ShloMosaic.Tactic Idealize.ShloMosaic.StableHlo

variable (m : (ℓ : Loc nD τ sig) → Buf (Elt Ideal) ℓ) (ρ : Dev nD → PrngReg) (c : Dev nD)

/-- The host's lines after the call put the heads side by side. -/
theorem tail_27 (σ : Valuation τ sig (Elt Ideal)) (b : Fin 2) (s : Fin 32768) (x : Fin 512) :
    StableHlo.after hostOps1 σ (Proc.devRef .tc main_v27) (ix3 b s x : S2x32768x512.Idx)
      = σ (Proc.devRef .tc main_v24_0) (ix3 (hd b ⟨x.val / 64, by omega⟩) s ⟨x.val % 64, by omega⟩ : S16x32768x64.Idx) := by
  entry_read
  pointwise []
  exact congrArg (fun y : Fin 16 => σ (Proc.devRef .tc main_v24_0) (ix3 y s ⟨x.val % 64, by omega⟩ : S16x32768x64.Idx)) (Fin.ext (by show b.val * 8 + x.val / 64 = 8 * b.val + x.val / 64; omega))

/-- They lay the statistics out by pairs of heads. -/
theorem tail_28 (σ : Valuation τ sig (Elt Ideal)) (b : Fin 2) (p : Fin 4) (h : Fin 2) (s : Fin 32768) :
    StableHlo.after hostOps1 σ (Proc.devRef .tc main_v28) (ix4 b p h s : S2x4x2x32768.Idx)
      = σ (Proc.devRef .tc main_v24_1) (ix3 (hd b ⟨2 * p.val + h.val, by omega⟩) s 0 : S16x32768x1.Idx) := by
  entry_read
  pointwise []
  exact congrArg (fun y : Fin 16 => σ (Proc.devRef .tc main_v24_1) (ix3 y s 0 : S16x32768x1.Idx)) (Fin.ext (by show b.val * 8 + p.val * 2 + h.val = 8 * b.val + (2 * p.val + h.val); omega))

theorem arrs_inj : Function.Injective (Pipeline.arrRef spec0) := by decide

/-- The first result at the end. -/
theorem end_27 : Pipeline.afterTail₀ cfgs (dats m) 0 (V0 m) [hostOps1] c main_v27
    = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  rw [List.flatten_cons, List.flatten_nil, List.append_nil]
  funext i
  obtain ⟨b, s, x, rfl⟩ : ∃ (b : Fin 2) (s : Fin 32768) (x : Fin 512), i = (ix3 b s x : S2x32768x512.Idx) := ⟨i 0, i 1, i 2, eq_ix3 i⟩
  refine (tail_27 _ b s x).trans ?_
  refine (congrFun ((Pipeline.withArrays_arr spec0 arrs_inj c (V0 m c) _ 6).trans (arr6 m c)) _).trans ?_
  exact P6_apply m c b ⟨x.val / 64, by omega⟩ s ⟨x.val % 64, by omega⟩

/-- The second. -/
theorem end_28 : Pipeline.afterTail₀ cfgs (dats m) 0 (V0 m) [hostOps1] c main_v28
    = statArr (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  rw [List.flatten_cons, List.flatten_nil, List.append_nil]
  funext i
  obtain ⟨b, p, h, s, rfl⟩ : ∃ (b : Fin 2) (p : Fin 4) (h : Fin 2) (s : Fin 32768), i = (ix4 b p h s : S2x4x2x32768.Idx) := ⟨i 0, i 1, i 2, i 3, eq_ix4 i⟩
  refine (tail_28 _ b p h s).trans ?_
  refine (congrFun ((Pipeline.withArrays_arr spec0 arrs_inj c (V0 m c) _ 7).trans (arr7 m c)) _).trans ?_
  exact P7_apply m c b ⟨2 * p.val + h.val, by omega⟩ s

/-- The reference ends with causal attention and the rows' statistics in its results. -/
theorem run : θ_run defs (onTc (τ := τ) (main (F := Ideal))) ⟨m, fun _ => 0, ρ⟩ (fun r => ∀ c : Dev nD,
      r.2.mem ((c.tc : Thread nD τ).loc main_v27) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v28) = statArr (m ((c.tc : Thread nD τ).loc main_arg0)) (m ((c.tc : Thread nD τ).loc main_arg1)) (m ((c.tc : Thread nD τ).loc main_arg2)) (m ((c.tc : Thread nD τ).loc main_arg3))) := by
  run_from (run_main m ρ)
  · exact end_27 m c
  · exact end_28 m c

end Cert.Proof.ReferenceIdeal

end
-- ==== Proof.Equal.lean ====
/- Kernel and reference compute the same function over the extended reals, where every query's scale is positive. -/
module

public import proofs.«01_k».proof.Defs
public import proofs.«01_k».proof.Proof.KernelRun
public import proofs.«01_k».proof.Proof.RefRun
public import proofs.«01_k».proof.Proof.Whole

@[expose] public section

set_option maxHeartbeats 4000000

noncomputable section

namespace Cert.Proof

open Idealize.ShloMosaic Idealize.ShloMosaic.TcCoe Idealize.ShloMosaic.Tactic

/-- The precondition's one side condition. -/
instance preFacts : Cert.Pre_q_scales_positive.Facts := ⟨by decide⟩

/-- The precondition says of every query's scale that it is positive. -/
theorem pre_pos (q : FVec Ideal Cert.Pre_q_scales_positive.S2x32768x512 .fp8e4m3) (qs : FVec Ideal Cert.Pre_q_scales_positive.S2x32768x8 .f32) (k : FVec Ideal Cert.Pre_q_scales_positive.S2x32768x128 .fp8e4m3)
    (ks : FVec Ideal Cert.Pre_q_scales_positive.S2x32768x2 .f32) (v : FVec Ideal Cert.Pre_q_scales_positive.S2x32768x128 .fp8e4m3) (vs : FVec Ideal Cert.Pre_q_scales_positive.S2x2 .f32)
    (h : Cert.Pre_q_scales_positive.fn (F := Ideal) q qs k ks v vs = fun _ => 1#1) (b : Fin 2) (s : Fin 32768) (n : Fin 8) : (0 : EReal) < qs (ix3 b s n) := by
  have e := congrFun h (ix3 b s n)
  revert e
  pointwise [Cert.Pre_q_scales_positive.fn]
  intro e
  by_contra hn
  rw [decide_eq_false hn] at e
  exact absurd e (by decide)

/-- The kernel's results are the reference's. -/
theorem equal : Cert.algebraic_KernelIdeal_ReferenceIdeal_pre_q_scales_positive := by
  intro m g m' g' hpre hagree
  have hpos := fun (c : Dev Cert.KernelIdeal.nD) => pre_pos _ _ _ _ _ _ (hpre c)
  refine ⟨_, _, (θ_run _ _ _).mono (fun r h c => ⟨(h.1 c).1, (h.1 c).2, h.2.1 c⟩) (θ_run_and (KernelIdeal.run m g hpos) (KernelIdeal.frame m g)), ?_⟩
  refine (θ_run _ _ _).mono (fun r h c => ⟨(h.1 c).1.trans ?_, (h.1 c).2.trans ?_, h.2.1 c⟩) (θ_run_and (ReferenceIdeal.run m' g') (Cert.ReferenceIdeal.Gen.frame m' g'))
  · obtain ⟨h0, h1, h2, h3, h4, h5⟩ := hagree c
    rw [h0, h1, h2, h3, h4, h5]
  · obtain ⟨h0, h1, h2, h3, h4, h5⟩ := hagree c
    rw [h0, h1, h2, h3]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Whole
public import proofs.«01_k».proof.Proof.BitsWhole
public import proofs.«01_k».proof.Proof.Equal

@[expose] public section

noncomputable section

namespace Cert.Proof

open Idealize.ShloMosaic

/-- Everything claimed. -/
theorem claim : Cert.Claim :=
  ⟨inferInstance, inferInstance, inferInstance, inferInstance,
    fun m g _ => Kernel.frame m g,
    fun m g _ => KernelIdeal.frame m g,
    fun m g _ => KernelIdeal.frame m g,
    fun m g _ => Cert.ReferenceIdeal.Gen.frame m g,
    fun m g _ => Cert.ReferenceIdeal.Gen.frame m g,
    IdealRules.named_const.statement Cert.KernelIdeal.κ "log2_e" .f32 0x3FB8AA3B#32 _ rfl,
    equal⟩

end Cert.Proof

end
